-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x18432 : Shape := ⟨3, ![4, 4096, 18432]⟩
abbrev S18432x7168 : Shape := ⟨2, ![18432, 7168]⟩
abbrev S288x7168 : Shape := ⟨2, ![288, 7168]⟩
abbrev S16384x18432 : Shape := ⟨2, ![16384, 18432]⟩
abbrev S1x7168 : Shape := ⟨2, ![1, 7168]⟩
abbrev S512x1024 : Shape := ⟨2, ![512, 1024]⟩
abbrev S8x1024 : Shape := ⟨2, ![8, 1024]⟩
abbrev S1x1024 : Shape := ⟨2, ![1, 1024]⟩
abbrev S8x1x1024 : Shape := ⟨3, ![8, 1, 1024]⟩
abbrev S8x64x1024 : Shape := ⟨3, ![8, 64, 1024]⟩
abbrev S1024 : Shape := ⟨1, ![1024]⟩
abbrev S16384x7168 : Shape := ⟨2, ![16384, 7168]⟩
abbrev S2048x1024 : Shape := ⟨2, ![2048, 1024]⟩
abbrev S1024x1792 : Shape := ⟨2, ![1024, 1792]⟩
abbrev S2048x1792 : Shape := ⟨2, ![2048, 1792]⟩
abbrev S1x1792 : Shape := ⟨2, ![1, 1792]⟩
abbrev S1792 : Shape := ⟨1, ![1792]⟩
abbrev S1024x1024 : Shape := ⟨2, ![1024, 1024]⟩
abbrev S16x1792 : Shape := ⟨2, ![16, 1792]⟩
abbrev S64x1792 : Shape := ⟨2, ![64, 1792]⟩
abbrev S7168 : Shape := ⟨1, ![7168]⟩
abbrev S4x4096x7168 : Shape := ⟨3, ![4, 4096, 7168]⟩

abbrev nBuf : Space → Nat
  | .hbm => 14
  | .vmem => 33
  | .smem => 0
  | _ => 0

abbrev bufTy : (tb : Table) → Fin (tcTables nBuf tb) → BufTy
  | .hbm, ⟨0, _⟩ => ⟨S4x4096x18432, .bf16⟩
  | .hbm, ⟨1, _⟩ => ⟨S18432x7168, .f32⟩
  | .hbm, ⟨2, _⟩ => ⟨S18432x7168, .i8⟩
  | .hbm, ⟨3, _⟩ => ⟨S288x7168, .f32⟩
  | .hbm, ⟨4, _⟩ => ⟨S18432x7168, .f32⟩
  | .hbm, ⟨5, _⟩ => ⟨S16384x18432, .bf16⟩
  | .hbm, ⟨6, _⟩ => ⟨S18432x7168, .bf16⟩
  | .hbm, ⟨7, _⟩ => ⟨S1x7168, .f32⟩
  | .hbm, ⟨8, _⟩ => ⟨S16384x7168, .bf16⟩
  | .hbm, ⟨9, _⟩ => ⟨S1x7168, .f32⟩
  | .hbm, ⟨10, _⟩ => ⟨S18432x7168, .f32⟩
  | .hbm, ⟨11, _⟩ => ⟨S7168, .f32⟩
  | .hbm, ⟨12, _⟩ => ⟨S7168, .f32⟩
  | .hbm, ⟨13, _⟩ => ⟨S4x4096x7168, .bf16⟩
  | .local _ .vmem, ⟨0, _⟩ => ⟨S512x1024, .f32⟩
  | .local _ .vmem, ⟨1, _⟩ => ⟨S512x1024, .f32⟩
  | .local _ .vmem, ⟨2, _⟩ => ⟨S512x1024, .i8⟩
  | .local _ .vmem, ⟨3, _⟩ => ⟨S512x1024, .i8⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S2048x1024, .bf16⟩
  | .local _ .vmem, ⟨13, _⟩ => ⟨S2048x1024, .bf16⟩
  | .local _ .vmem, ⟨14, _⟩ => ⟨S1024x1792, .bf16⟩
  | .local _ .vmem, ⟨15, _⟩ => ⟨S1024x1792, .bf16⟩
  | .local _ .vmem, ⟨16, _⟩ => ⟨S2048x1792, .bf16⟩
  | .local _ .vmem, ⟨17, _⟩ => ⟨S2048x1792, .bf16⟩
  | .local _ .vmem, ⟨18, _⟩ => ⟨S1x1792, .f32⟩
  | .local _ .vmem, ⟨19, _⟩ => ⟨S1x1792, .f32⟩
  | .local _ .vmem, ⟨20, _⟩ => ⟨S2048x1792, .f32⟩
  | .local _ .vmem, ⟨21, _⟩ => ⟨S1024x1024, .bf16⟩
  | .local _ .vmem, ⟨22, _⟩ => ⟨S1024x1024, .bf16⟩
  | .local _ .vmem, ⟨23, _⟩ => ⟨S1024x1792, .bf16⟩
  | .local _ .vmem, ⟨24, _⟩ => ⟨S1024x1792, .bf16⟩
  | .local _ .vmem, ⟨25, _⟩ => ⟨S1024x1792, .f32⟩
  | .local _ .vmem, ⟨26, _⟩ => ⟨S1024x1792, .f32⟩
  | .local _ .vmem, ⟨27, _⟩ => ⟨S1024x1792, .i8⟩
  | .local _ .vmem, ⟨28, _⟩ => ⟨S1024x1792, .i8⟩
  | .local _ .vmem, ⟨29, _⟩ => ⟨S16x1792, .f32⟩
  | .local _ .vmem, ⟨30, _⟩ => ⟨S16x1792, .f32⟩
  | .local _ .vmem, ⟨31, _⟩ => ⟨S1024x1792, .f32⟩
  | .local _ .vmem, ⟨32, _⟩ => ⟨S1024x1792, .f32⟩
  | _, _ => ⟨S4x4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨2, ![7, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨3, ![4, 8, 18], ![false, false, false]⟩

def k1_cond2 (i : grid1.Coords) : BitVec 1 :=
  let arg2 : BitVec 32 := BitVec.ofNat 32 (i 2).val
  let c17_i32 : BitVec 32 := 17#32
  let v13 : BitVec 1 := Scalar.cmpi .eq arg2 c17_i32
  let v14 : BitVec 32 := Scalar.extui v13
  let c0_i32_8 : BitVec 32 := 0#32
  let v15 : BitVec 1 := Scalar.cmpi .ne v14 c0_i32_8
  v15

def k1_cond3 (i : grid1.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x1792 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S2048x1792 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1792 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev grid2 : Pipeline.Grid := ⟨3, ![4, 18, 16], ![false, false, false]⟩

def k2_cond2 (i : grid2.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

@[reducible] def k2_t1_loop : Scf.Loop 32 :=
  let c0_i32_9 : BitVec 32 := 0#32
  let c16_i32 : BitVec 32 := 16#32
  let v15 : BitVec 32 := Scalar.addi c0_i32_9 c16_i32
  let c1_i32 : BitVec 32 := 1#32
  ⟨c0_i32_9, v15, c1_i32⟩
def k2_mult1 (k2_t1 : Fin k2_t1_loop.trips) : BitVec 32 :=
  let c0_i32_9 : BitVec 32 := 0#32
  let c1_i32 : BitVec 32 := 1#32
  let arg9 : BitVec 32 := Scf.iv c0_i32_9 c1_i32 k2_t1
  let c64_i32 : BitVec 32 := 64#32
  let v16 : BitVec 32 := Scalar.muli arg9 c64_i32
  v16
def k2_off1 (k2_t1 : Fin k2_t1_loop.trips) : Fin 2 → Nat :=
  let c0_i32_9 : BitVec 32 := 0#32
  let c1_i32 : BitVec 32 := 1#32
  let arg9 : BitVec 32 := Scf.iv c0_i32_9 c1_i32 k2_t1
  let c64_i32 : BitVec 32 := 64#32
  let v16 : BitVec 32 := Scalar.muli arg9 c64_i32
  let v17 : BitVec 32 := v16
  let v18 : Index := Scalar.indexCast v17
  let c0_11 : Index := 0#32
  ![v18.toNat, 0]
def k2_off2 (k2_t1 : Fin k2_t1_loop.trips) : Fin 2 → Nat :=
  let c0_i32_9 : BitVec 32 := 0#32
  let c1_i32 : BitVec 32 := 1#32
  let arg9 : BitVec 32 := Scf.iv c0_i32_9 c1_i32 k2_t1
  let v58 : Index := Scalar.indexCast arg9
  let c0_26 : Index := 0#32
  ![v58.toNat, 0]
def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1024x1792 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1024x1792 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1792 .i8 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S16x1792 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1024x1792 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]
-- ==== ReferenceIdeal.lean ====
abbrev S4x4096x18432 : Shape := ⟨3, ![4, 4096, 18432]⟩
abbrev S18432x7168 : Shape := ⟨2, ![18432, 7168]⟩
abbrev S288x7168 : Shape := ⟨2, ![288, 7168]⟩
abbrev S16384x18432 : Shape := ⟨2, ![16384, 18432]⟩
abbrev S288x1x7168 : Shape := ⟨3, ![288, 1, 7168]⟩
abbrev S_ : Shape := ⟨0, ![]⟩
abbrev S288x64x7168 : Shape := ⟨3, ![288, 64, 7168]⟩
abbrev S16384x7168 : Shape := ⟨2, ![16384, 7168]⟩
abbrev S7168 : Shape := ⟨1, ![7168]⟩
abbrev S4x4096x7168 : Shape := ⟨3, ![4, 4096, 7168]⟩

abbrev nBuf : Space → Nat
  | .hbm => 118
  | .vmem => 2
  | .smem => 0
  | _ => 0

abbrev bufTy : (tb : Table) → Fin (tcTables nBuf tb) → BufTy
  | .hbm, ⟨0, _⟩ => ⟨S4x4096x18432, .bf16⟩
  | .hbm, ⟨1, _⟩ => ⟨S18432x7168, .f32⟩
  | .hbm, ⟨2, _⟩ => ⟨S18432x7168, .i8⟩
  | .hbm, ⟨3, _⟩ => ⟨S288x7168, .f32⟩
  | .hbm, ⟨4, _⟩ => ⟨S18432x7168, .f32⟩
  | .hbm, ⟨5, _⟩ => ⟨S16384x18432, .bf16⟩
  | .hbm, ⟨6, _⟩ => ⟨S288x1x7168, .f32⟩
  | .hbm, ⟨7, _⟩ => ⟨S18432x7168, .f32⟩
  | .hbm, ⟨8, _⟩ => ⟨S18432x7168, .f32⟩
  | .hbm, ⟨9, _⟩ => ⟨S_, .f32⟩
  | .hbm, ⟨10, _⟩ => ⟨S18432x7168, .f32⟩
  | .hbm, ⟨11, _⟩ => ⟨S18432x7168, .f32⟩
  | .hbm, ⟨12, _⟩ => ⟨S_, .f32⟩
  | .hbm, ⟨13, _⟩ => ⟨S18432x7168, .f32⟩
  | .hbm, ⟨14, _⟩ => ⟨S18432x7168, .f32⟩
  | .hbm, ⟨15, _⟩ => ⟨S_, .f32⟩
  | .hbm, ⟨16, _⟩ => ⟨S18432x7168, .f32⟩
  | .hbm, ⟨17, _⟩ => ⟨S18432x7168, .f32⟩
  | .hbm, ⟨18, _⟩ => ⟨S_, .f32⟩
  | .hbm, ⟨19, _⟩ => ⟨S18432x7168, .f32⟩
  | .hbm, ⟨20, _⟩ => ⟨S18432x7168, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S18432x7168, .f32⟩
  | .hbm, ⟨25, _⟩ => ⟨S18432x7168, .f32⟩
  | .hbm, ⟨26, _⟩ => ⟨S_, .f32⟩
  | .hbm, ⟨27, _⟩ => ⟨S18432x7168, .f32⟩
  | .hbm, ⟨28, _⟩ => ⟨S18432x7168, .f32⟩
  | .hbm, ⟨29, _⟩ => ⟨S18432x7168, .f32⟩
  | .hbm, ⟨30, _⟩ => ⟨S18432x7168, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S18432x7168, .f32⟩
  | .hbm, ⟨35, _⟩ => ⟨S18432x7168, .f32⟩
  | .hbm, ⟨36, _⟩ => ⟨S_, .f32⟩
  | .hbm, ⟨37, _⟩ => ⟨S18432x7168, .f32⟩
  | .hbm, ⟨38, _⟩ => ⟨S18432x7168, .f32⟩
  | .hbm, ⟨39, _⟩ => ⟨S288x64x7168, .f32⟩
  | .hbm, ⟨40, _⟩ => ⟨S288x64x7168, .f32⟩
  | .hbm, ⟨41, _⟩ => ⟨S288x64x7168, .f32⟩
  | .hbm, ⟨42, _⟩ => ⟨S18432x7168, .f32⟩
  | .hbm, ⟨43, _⟩ => ⟨S18432x7168, .f32⟩
  | .hbm, ⟨44, _⟩ => ⟨S18432x7168, .bf16⟩
  | .hbm, ⟨45, _⟩ => ⟨S16384x7168, .f32⟩
  | .hbm, ⟨46, _⟩ => ⟨S16384x7168, .f32⟩
  | .hbm, ⟨47, _⟩ => ⟨S_, .f32⟩
  | .hbm, ⟨48, _⟩ => ⟨S7168, .f32⟩
  | .hbm, ⟨49, _⟩ => ⟨S_, .f32⟩
  | .hbm, ⟨50, _⟩ => ⟨S7168, .f32⟩
  | .hbm, ⟨51, _⟩ => ⟨S7168, .f32⟩
  | .hbm, ⟨52, _⟩ => ⟨S_, .f32⟩
  | .hbm, ⟨53, _⟩ => ⟨S18432x7168, .f32⟩
  | .hbm, ⟨54, _⟩ => ⟨S18432x7168, .f32⟩
  | .hbm, ⟨55, _⟩ => ⟨S_, .f32⟩
  | .hbm, ⟨56, _⟩ => ⟨S18432x7168, .f32⟩
  | .hbm, ⟨57, _⟩ => ⟨S18432x7168, .f32⟩
  | .hbm, ⟨58, _⟩ => ⟨S18432x7168, .f32⟩
  | .hbm, ⟨59, _⟩ => ⟨S_, .f32⟩
  | .hbm, ⟨60, _⟩ => ⟨S18432x7168, .f32⟩
  | .hbm, ⟨61, _⟩ => ⟨S18432x7168, .f32⟩
  | .hbm, ⟨62, _⟩ => ⟨S_, .f32⟩
  | .hbm, ⟨63, _⟩ => ⟨S18432x7168, .f32⟩
  | .hbm, ⟨64, _⟩ => ⟨S18432x7168, .f32⟩
  | .hbm, ⟨65, _⟩ => ⟨S_, .f32⟩
  | .hbm, ⟨66, _⟩ => ⟨S7168, .f32⟩
  | .hbm, ⟨67, _⟩ => ⟨S_, .f32⟩
  | .hbm, ⟨68, _⟩ => ⟨S7168, .f32⟩
  | .hbm, ⟨69, _⟩ => ⟨S7168, .f32⟩
  | .hbm, ⟨70, _⟩ => ⟨S16384x7168, .bf16⟩
  | .hbm, ⟨71, _⟩ => ⟨S18432x7168, .f32⟩
  | .hbm, ⟨72, _⟩ => ⟨S_, .f32⟩
  | .hbm, ⟨73, _⟩ => ⟨S18432x7168, .f32⟩
  | .hbm, ⟨74, _⟩ => ⟨S18432x7168, .i1⟩
  | .hbm, ⟨75, _⟩ => ⟨S_, .f32⟩
  | .hbm, ⟨76, _⟩ => ⟨S18432x7168, .f32⟩
  | .hbm, ⟨77, _⟩ => ⟨S18432x7168, .i1⟩
  | .hbm, ⟨78, _⟩ => ⟨S_, .f32⟩
  | .hbm, ⟨79, _⟩ => ⟨S18432x7168, .f32⟩
  | .hbm, ⟨80, _⟩ => ⟨S18432x7168, .i1⟩
  | .hbm, ⟨81, _⟩ => ⟨S18432x7168, .i1⟩
  | .hbm, ⟨82, _⟩ => ⟨S_, .f32⟩
  | .hbm, ⟨83, _⟩ => ⟨S18432x7168, .f32⟩
  | .hbm, ⟨84, _⟩ => ⟨S18432x7168, .f32⟩
  | .hbm, ⟨85, _⟩ => ⟨S_, .f32⟩
  | .hbm, ⟨86, _⟩ => ⟨S18432x7168, .f32⟩
  | .hbm, ⟨87, _⟩ => ⟨S18432x7168, .f32⟩
  | .hbm, ⟨88, _⟩ => ⟨S18432x7168, .f32⟩
  | .hbm, ⟨89, _⟩ => ⟨S_, .f32⟩
  | .hbm, ⟨90, _⟩ => ⟨S_, .f32⟩
  | .hbm, ⟨91, _⟩ => ⟨S18432x7168, .f32⟩
  | .hbm, ⟨92, _⟩ => ⟨S18432x7168, .f32⟩
  | .hbm, ⟨93, _⟩ => ⟨S18432x7168, .f32⟩
  | .hbm, ⟨94, _⟩ => ⟨S_, .f32⟩
  | .hbm, ⟨95, _⟩ => ⟨S18432x7168, .f32⟩
  | .hbm, ⟨96, _⟩ => ⟨S18432x7168, .f32⟩
  | .hbm, ⟨97, _⟩ => ⟨S_, .f32⟩
  | .hbm, ⟨98, _⟩ => ⟨S18432x7168, .f32⟩
  | .hbm, ⟨99, _⟩ => ⟨S18432x7168, .f32⟩
  | .hbm, ⟨100, _⟩ => ⟨S18432x7168, .f32⟩
  | .hbm, ⟨101, _⟩ => ⟨S288x64x7168, .f32⟩
  | .hbm, ⟨102, _⟩ => ⟨S288x64x7168, .f32⟩
  | .hbm, ⟨103, _⟩ => ⟨S288x64x7168, .f32⟩
  | .hbm, ⟨104, _⟩ => ⟨S18432x7168, .f32⟩
  | .hbm, ⟨105, _⟩ => ⟨S_, .f32⟩
  | .hbm, ⟨106, _⟩ => ⟨S18432x7168, .f32⟩
  | .hbm, ⟨107, _⟩ => ⟨S18432x7168, .f32⟩
  | .hbm, ⟨108, _⟩ => ⟨S_, .f32⟩
  | .hbm, ⟨109, _⟩ => ⟨S_, .f32⟩
  | .hbm, ⟨110, _⟩ => ⟨S18432x7168, .f32⟩
  | .hbm, ⟨111, _⟩ => ⟨S18432x7168, .f32⟩
  | .hbm, ⟨112, _⟩ => ⟨S18432x7168, .f32⟩
  | .hbm, ⟨113, _⟩ => ⟨S18432x7168, .f32⟩
  | .hbm, ⟨114, _⟩ => ⟨S18432x7168, .f32⟩
  | .hbm, ⟨115, _⟩ => ⟨S18432x7168, .f32⟩
  | .hbm, ⟨116, _⟩ => ⟨S18432x7168, .f32⟩
  | .hbm, ⟨117, _⟩ => ⟨S4x4096x7168, .bf16⟩
  | .local _ .vmem, ⟨0, _⟩ => ⟨S18432x7168, .i8⟩
  | .local _ .vmem, ⟨1, _⟩ => ⟨S18432x7168, .f32⟩
  | _, _ => ⟨S4x4096x18432, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_cst_9 : Ref sig .tc := ⟨.hbm, 52, rfl⟩
abbrev main_v27 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_11 : Ref sig .tc := ⟨.hbm, 59, rfl⟩
abbrev main_v32 : Ref sig .tc := ⟨.hbm, 60, rfl⟩
abbrev main_v33 : Ref sig .tc := ⟨.hbm, 61, rfl⟩
abbrev main_cst_12 : Ref sig .tc := ⟨.hbm, 62, rfl⟩
abbrev main_v34 : Ref sig .tc := ⟨.hbm, 63, rfl⟩
abbrev main_v35 : Ref sig .tc := ⟨.hbm, 64, rfl⟩
abbrev main_cst_13 : Ref sig .tc := ⟨.hbm, 65, rfl⟩
abbrev main_v36 : Ref sig .tc := ⟨.hbm, 66, rfl⟩
abbrev main_cst_14 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_15 : Ref sig .tc := ⟨.hbm, 72, rfl⟩
abbrev main_v41 : Ref sig .tc := ⟨.hbm, 73, rfl⟩
abbrev main_v42 : Ref sig .tc := ⟨.hbm, 74, rfl⟩
abbrev main_cst_16 : Ref sig .tc := ⟨.hbm, 75, rfl⟩
abbrev main_v43 : Ref sig .tc := ⟨.hbm, 76, rfl⟩
abbrev main_v44 : Ref sig .tc := ⟨.hbm, 77, rfl⟩
abbrev main_cst_17 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_18 : Ref sig .tc := ⟨.hbm, 82, rfl⟩
abbrev main_v48 : Ref sig .tc := ⟨.hbm, 83, rfl⟩
abbrev main_v49 : Ref sig .tc := ⟨.hbm, 84, rfl⟩
abbrev main_cst_19 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_20 : Ref sig .tc := ⟨.hbm, 89, rfl⟩
abbrev main_call2_v0 : Ref sig .tc := ⟨.hbm, 90, rfl⟩
abbrev main_call2_v1 : Ref sig .tc := ⟨.hbm, 91, rfl⟩
abbrev main_v53 : Ref sig .tc := ⟨.hbm, 92, rfl⟩
abbrev main_v54 : Ref sig .tc := ⟨.hbm, 93, rfl⟩
abbrev main_cst_21 : Ref sig .tc := ⟨.hbm, 94, rfl⟩
abbrev main_v55 : Ref sig .tc := ⟨.hbm, 95, rfl⟩
abbrev main_v56 : Ref sig .tc := ⟨.hbm, 96, rfl⟩
abbrev main_cst_22 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_23 : Ref sig .tc := ⟨.hbm, 105, rfl⟩
abbrev main_v64 : Ref sig .tc := ⟨.hbm, 106, rfl⟩
abbrev main_v65 : Ref sig .tc := ⟨.hbm, 107, rfl⟩
abbrev main_cst_24 : Ref sig .tc := ⟨.hbm, 108, rfl⟩
abbrev main_cst_25 : Ref sig .tc := ⟨.hbm, 109, rfl⟩
abbrev main_call3_v0 : Ref sig .tc := ⟨.hbm, 110, rfl⟩
abbrev main_call3_v1 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S18432x7168 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Run.Region0.lean ====
/- The first call (`prep`): what each window holds, the body at each grid point, the proof data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_prep` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 36) — by arithmetic of the point. -/
theorem hcond0_0 : ∀ t : Fin cfg0.N, cond0_0 (grid0.coords t) ↔ t.val % 36 = 0 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 1 % 36 := Pipeline.Grid.coords_val t 1 (by decide) rfl
    simp only [cond0_0, e0, e1]
    word_cmp
   : ∀ t : Fin grid0.N, cond0_0 (grid0.coords t) ↔ t.val % 36 = 0)

/-! ## The kernel body on any staging memrefs: a subtype the run finds -/

/-- One staging buffer of output window 4, through which its contents are stated (`View.read_writes_of_cover`: the
    choice does not matter). -/
abbrev VO0_4 : View sig .tc .vmem S512x1024 .bf16 := (Memref.whole cc0_stg4_0 : Memref sig .tc .vmem S512x1024 .bf16).view
/-- One staging buffer of output window 5, through which its contents are stated (`View.read_writes_of_cover`: the
    choice does not matter). -/
abbrev VO0_5 : View sig .tc .vmem S1x1024 .f32 := (Memref.whole cc0_stg5_0 : Memref sig .tc .vmem S1x1024 .f32).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first) IN CASE A (`scf.if` 0 taken: points 0, 36, … 216: 7 of 252), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : cond0_0 i)
    (x0 : Vec F S512x1024 .f32) (x1 : Vec F S512x1024 .i8) (x2 : Vec F S8x1024 .f32) (x3 : Vec F S512x1024 .f32) :
    Σ' (L4 : List (View.Piece (Elt F) S512x1024 .bf16)), { L5 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_prep i arg2 harg2 arg3 harg3 arg4 harg4 arg5 harg5 arg6 harg6 arg7 harg7) K } := by
  refine ⟨?_, ?_, fun E K => ?run⟩
  case run =>
    simp only [cc0_prep_eq_skeleton]; unfold cc0_prep_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (1 store of `S512x1024`, checked by the kernel's evaluation: Lib/Ring.lean `Piece.tiledL`, linear in the pieces, through a loop's `@[irreducible]` trip theorem too), so they cover it. -/
theorem cover0_A_4 (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : cond0_0 i)
    (x0 : Vec F S512x1024 .f32) (x1 : Vec F S512x1024 .i8) (x2 : Vec F S8x1024 .f32) (x3 : Vec F S512x1024 .f32) (y : S512x1024.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S512x1024.size (by sl_kernel_rfl) y

/-- What case A leaves in output 4's staging buffer: its pieces read back over junk. -/
def out0_A_4 (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : cond0_0 i)
    (x0 : Vec F S512x1024 .f32) (x1 : Vec F S512x1024 .i8) (x2 : Vec F S8x1024 .f32) (x3 : Vec F S512x1024 .f32) : Vec F S512x1024 .bf16 :=
  VO0_4.read (Elt F) (VO0_4.writes (Elt F) VO0_4.junk (kernelRun0_A c i arg2 harg2 arg3 harg3 arg4 harg4 arg5 harg5 arg6 harg6 arg7 harg7 hc0 x0 x1 x2 x3).1)

/-- Case A's pieces for output 5 tile its block (2 stores of `S1x1024`, checked by the kernel's evaluation: Lib/Ring.lean `Piece.tiledL`, linear in the pieces, through a loop's `@[irreducible]` trip theorem too), so they cover it. -/
theorem cover0_A_5 (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : cond0_0 i)
    (x0 : Vec F S512x1024 .f32) (x1 : Vec F S512x1024 .i8) (x2 : Vec F S8x1024 .f32) (x3 : Vec F S512x1024 .f32) (y : S1x1024.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S1x1024.size (by sl_kernel_rfl) y

/-- What case A leaves in output 5's staging buffer: its pieces read back over junk. -/
def out0_A_5 (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : cond0_0 i)
    (x0 : Vec F S512x1024 .f32) (x1 : Vec F S512x1024 .i8) (x2 : Vec F S8x1024 .f32) (x3 : Vec F S512x1024 .f32) : Vec F S1x1024 .f32 :=
  VO0_5.read (Elt F) (VO0_5.writes (Elt F) VO0_5.junk (kernelRun0_A c i arg2 harg2 arg3 harg3 arg4 harg4 arg5 harg5 arg6 harg6 arg7 harg7 hc0 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken: points 1, 2, … 251: 245 of 252), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : ¬cond0_0 i)
    (x0 : Vec F S512x1024 .f32) (x1 : Vec F S512x1024 .i8) (x2 : Vec F S8x1024 .f32) (x3 : Vec F S512x1024 .f32) (xo5 : Vec F S1x1024 .f32) :
    Σ' (L4 : List (View.Piece (Elt F) S512x1024 .bf16)), { L5 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_prep i arg2 harg2 arg3 harg3 arg4 harg4 arg5 harg5 arg6 harg6 arg7 harg7) K } := by
  refine ⟨?_, ?_, fun E K => ?run⟩
  case run =>
    simp only [cc0_prep_eq_skeleton]; unfold cc0_prep_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case B's pieces for output 4 tile its block (1 store of `S512x1024`, checked by the kernel's evaluation: Lib/Ring.lean `Piece.tiledL`, linear in the pieces, through a loop's `@[irreducible]` trip theorem too), so they cover it. -/
theorem cover0_B_4 (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : ¬cond0_0 i)
    (x0 : Vec F S512x1024 .f32) (x1 : Vec F S512x1024 .i8) (x2 : Vec F S8x1024 .f32) (x3 : Vec F S512x1024 .f32) (xo5 : Vec F S1x1024 .f32) (y : S512x1024.Idx) :
    ∃ pc ∈ (kernelRun0_B c i arg2 harg2 arg3 harg3 arg4 harg4 arg5 harg5 arg6 harg6 arg7 harg7 hc0 x0 x1 x2 x3 xo5).1, y ∈ pc.1.set :=
  View.cover_of_tiledL (kernelRun0_B c i arg2 harg2 arg3 harg3 arg4 harg4 arg5 harg5 arg6 harg6 arg7 harg7 hc0 x0 x1 x2 x3 xo5).1 S512x1024.size (by sl_kernel_rfl) y

/-- What case B leaves in output 4's staging buffer: its pieces read back over junk. -/
def out0_B_4 (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : ¬cond0_0 i)
    (x0 : Vec F S512x1024 .f32) (x1 : Vec F S512x1024 .i8) (x2 : Vec F S8x1024 .f32) (x3 : Vec F S512x1024 .f32) (xo5 : Vec F S1x1024 .f32) : Vec F S512x1024 .bf16 :=
  VO0_4.read (Elt F) (VO0_4.writes (Elt F) VO0_4.junk (kernelRun0_B c i arg2 harg2 arg3 harg3 arg4 harg4 arg5 harg5 arg6 harg6 arg7 harg7 hc0 x0 x1 x2 x3 xo5).1)

/-- Case B's pieces for output 5 tile its block (1 store of `S1x1024`, checked by the kernel's evaluation: Lib/Ring.lean `Piece.tiledL`, linear in the pieces, through a loop's `@[irreducible]` trip theorem too), so they cover it. -/
theorem cover0_B_5 (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : ¬cond0_0 i)
    (x0 : Vec F S512x1024 .f32) (x1 : Vec F S512x1024 .i8) (x2 : Vec F S8x1024 .f32) (x3 : Vec F S512x1024 .f32) (xo5 : Vec F S1x1024 .f32) (y : S1x1024.Idx) :
    ∃ pc ∈ (kernelRun0_B c i arg2 harg2 arg3 harg3 arg4 harg4 arg5 harg5 arg6 harg6 arg7 harg7 hc0 x0 x1 x2 x3 xo5).2.1, y ∈ pc.1.set :=
  View.cover_of_tiledL (kernelRun0_B c i arg2 harg2 arg3 harg3 arg4 harg4 arg5 harg5 arg6 harg6 arg7 harg7 hc0 x0 x1 x2 x3 xo5).2.1 S1x1024.size (by sl_kernel_rfl) y

/-- What case B leaves in output 5's staging buffer: its pieces read back over junk. -/
def out0_B_5 (c : Dev nD) (i : grid0.Coords) (arg2 : Memref sig .tc .vmem S512x1024 .f32) (harg2 : arg2.IsWhole) (arg3 : Memref sig .tc .vmem S512x1024 .i8) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : ¬cond0_0 i)
    (x0 : Vec F S512x1024 .f32) (x1 : Vec F S512x1024 .i8) (x2 : Vec F S8x1024 .f32) (x3 : Vec F S512x1024 .f32) (xo5 : Vec F S1x1024 .f32) : Vec F S1x1024 .f32 :=
  VO0_5.read (Elt F) (VO0_5.writes (Elt F) VO0_5.junk (kernelRun0_B c i arg2 harg2 arg3 harg3 arg4 harg4 arg5 harg5 arg6 harg6 arg7 harg7 hc0 x0 x1 x2 x3 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .bf16 × Vec F S1x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 36 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a point of case A: that case's contents. -/
theorem outsAt0_A (c : Dev nD) (t : Fin cfg0.N) (h0 : t.val % 36 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 36 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 36 = 0) (d) :
    (dat0 V c).before 5 t d = (outsAt0 V c (t.val - 1) (Nat.lt_of_le_of_lt (Nat.sub_le _ _) t.isLt)).2 := by
  have hN : t.val < 252 := lt_of_lt_of_eq t.isLt (show cfg0.N = 252 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 252 := lt_of_lt_of_eq t.isLt (show cfg0.N = 252 from N_0)
  by_cases h0 : t.val % 36 = 0
  · rw [outsAt0_A V c t h0]
    unfold out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B V c t h0]
    simp only [before0_5_B V c t h0]
    unfold out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.Run.Region1.lean ====
/- The second call (`fwd`): the accumulator carried in scratch, the body at each grid point, the proof data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_fwd` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 18) — by arithmetic of the point. -/
theorem hcond1_0 : ∀ t : Fin cfg1.N, cond1_0 (grid1.coords t) ↔ t.val % 18 = 0 :=
  (fun t => by
    have ht : t.val < 576 := Nat.lt_of_lt_of_eq t.isLt N_1
    have e0 : (grid1.coords t 0).val = t.val / 144 % 4 := Pipeline.Grid.coords_val t 0 (by decide) rfl
    have e1 : (grid1.coords t 1).val = t.val / 18 % 8 := Pipeline.Grid.coords_val t 1 (by decide) rfl
    have e2 : (grid1.coords t 2).val = t.val / 1 % 18 := Pipeline.Grid.coords_val t 2 (by decide) rfl
    simp only [cond1_0, e0, e1, e2]
    word_cmp
   : ∀ t : Fin grid1.N, cond1_0 (grid1.coords t) ↔ t.val % 18 = 0)

/-- The condition of the body's `scf.if` 1 (`k1_h2`), from the grid coordinates (the skeleton's scalar
    chain substituted). -/
abbrev cond1_1 (i : grid1.Coords) : Prop := k1_cond2 i = 1#1
/-- It holds at the points ≡ 17 (mod 18) — by arithmetic of the point. -/
theorem hcond1_1 : ∀ t : Fin cfg1.N, cond1_1 (grid1.coords t) ↔ t.val % 18 = 17 :=
  (fun t => by
    have ht : t.val < 576 := Nat.lt_of_lt_of_eq t.isLt N_1
    have e0 : (grid1.coords t 0).val = t.val / 144 % 4 := Pipeline.Grid.coords_val t 0 (by decide) rfl
    have e1 : (grid1.coords t 1).val = t.val / 18 % 8 := Pipeline.Grid.coords_val t 1 (by decide) rfl
    have e2 : (grid1.coords t 2).val = t.val / 1 % 18 := Pipeline.Grid.coords_val t 2 (by decide) rfl
    simp only [cond1_1, k1_cond2, e0, e1, e2]
    word_cmp
   : ∀ t : Fin grid1.N, cond1_1 (grid1.coords t) ↔ t.val % 18 = 17)

/-- The condition of the body's `scf.if` 2 (`k1_h3`), from the grid coordinates (the skeleton's scalar
    chain substituted). -/
abbrev cond1_2 (i : grid1.Coords) : Prop := k1_cond3 i = 1#1
/-- It holds at the points whose coordinates have i1 = 0 — by arithmetic of the point. -/
theorem hcond1_2 : ∀ t : Fin cfg1.N, cond1_2 (grid1.coords t) ↔ t.val / 18 % 8 = 0 :=
  (fun t => by
    have ht : t.val < 576 := Nat.lt_of_lt_of_eq t.isLt N_1
    have e0 : (grid1.coords t 0).val = t.val / 144 % 4 := Pipeline.Grid.coords_val t 0 (by decide) rfl
    have e1 : (grid1.coords t 1).val = t.val / 18 % 8 := Pipeline.Grid.coords_val t 1 (by decide) rfl
    have e2 : (grid1.coords t 2).val = t.val / 1 % 18 := Pipeline.Grid.coords_val t 2 (by decide) rfl
    simp only [cond1_2, k1_cond3, e0, e1, e2]
    word_cmp
   : ∀ t : Fin grid1.N, cond1_2 (grid1.coords t) ↔ t.val / 18 % 8 = 0)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- At the points of case A the printed configuration (`Cfg.idle`) calls output 2 idle: the case stores nothing into it. -/
theorem idleAt1_2_A : ∀ t : Fin cfg1.N, cond1_0 (grid1.coords t) → ¬cond1_1 (grid1.coords t) → cfg1.idle 2 (grid1.coords t) = true := by decide +kernel
/-- At the points of case A the pipeline does not write output 2's block back. -/
theorem noFlush1_2_A : ∀ t : Fin cfg1.N, cond1_0 (grid1.coords t) → ¬cond1_1 (grid1.coords t) → (cfg1.win 2).flush t = false := by decide +kernel
/-- At the points of case B the printed configuration (`Cfg.idle`) calls output 2 idle: the case stores nothing into it. -/
theorem idleAt1_2_B : ∀ t : Fin cfg1.N, ¬cond1_0 (grid1.coords t) → ¬cond1_1 (grid1.coords t) → cfg1.idle 2 (grid1.coords t) = true := by decide +kernel
/-- At the points of case B the pipeline does not write output 2's block back. -/
theorem noFlush1_2_B : ∀ t : Fin cfg1.N, ¬cond1_0 (grid1.coords t) → ¬cond1_1 (grid1.coords t) → (cfg1.win 2).flush t = false := by decide +kernel
/-- At the points of case C the printed configuration (`Cfg.idle`) calls output 2 live: the case stores into it. -/
theorem liveAt1_2_C : ∀ t : Fin cfg1.N, ¬cond1_0 (grid1.coords t) → cond1_1 (grid1.coords t) → cond1_2 (grid1.coords t) → cfg1.idle 2 (grid1.coords t) = false := by decide +kernel
/-- At the points of case D the printed configuration (`Cfg.idle`) calls output 2 live: the case stores into it. -/
theorem liveAt1_2_D : ∀ t : Fin cfg1.N, ¬cond1_0 (grid1.coords t) → cond1_1 (grid1.coords t) → ¬cond1_2 (grid1.coords t) → cfg1.idle 2 (grid1.coords t) = false := by decide +kernel
/-- Whether output 3's buffer is FRESH at each position `1 ‥ N` — holds nothing the body stored since the region's entry or the
    last write-back (written back at the point before, or idle there and fresh before it) —, as a bitmask the classifier
    computed, bit `n` for position `n + 1`; position 0 is fresh. `freshTab1_3_step` checks it against the configuration's own
    step point by point and Lib/Pipeline/TableIdle.lean `Cfg.fresh_tab` makes it `Cfg.fresh` (`fresh1_3_eq`). -/
def freshTab1_3 : ℕ → Bool
  | 0 => true
  | n + 1 => (0x80000000000000000000000000000001ffff80000000000000000000000000000001ffff80000000000000000000000000000001ffff80000000000000000000000000000001ffff : ℕ).testBit n
theorem freshTab1_3_step : ∀ t : Fin cfg1.N,
    freshTab1_3 (t.val + 1) = ((cfg1.win 3).flush t || (cfg1.idle 3 (cfg1.grid.coords t) && freshTab1_3 t.val)) := by decide +kernel
theorem fresh1_3_eq (t : Fin cfg1.N) : cfg1.fresh 3 t.val = freshTab1_3 t.val :=
  Pipeline.Cfg.fresh_tab cfg1 3 freshTab1_3 rfl freshTab1_3_step t.val (Nat.le_of_lt t.isLt)
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cond1_2 (grid1.coords t) → cfg1.idle 3 (grid1.coords t) = false := by decide +kernel
/-- At the points of case D the printed configuration (`Cfg.idle`) calls output 3 live: the case stores into it. -/
theorem liveAt1_3_D : ∀ t : Fin cfg1.N, ¬cond1_0 (grid1.coords t) → cond1_1 (grid1.coords t) → ¬cond1_2 (grid1.coords t) → cfg1.idle 3 (grid1.coords t) = false := by decide +kernel
/-- At the points of case D, which keeps output 3's prior contents (reads it before covering, or covers it in part), the
    window's buffer is not FRESH: something was stored into it since the region's entry or its last write-back, idle points
    between or not (Lib/Pipeline/TableIdle.lean `Cfg.fresh`, by the table `freshTab1_3`). -/
theorem notFresh1_3_D : ∀ t : Fin cfg1.N, ¬cond1_0 (grid1.coords t) → cond1_1 (grid1.coords t) → ¬cond1_2 (grid1.coords t) → cfg1.fresh 3 t.val = false := by
  intro t; rw [fresh1_3_eq t]; revert t; decide +kernel

/-! ## The kernel body on any staging memrefs: a subtype the run finds -/

/-- One staging buffer of output window 2, through which its contents are stated (`View.read_writes_of_cover`: the
    choice does not matter). -/
abbrev VO1_2 : View sig .tc .vmem S2048x1792 .bf16 := (Memref.whole cc1_stg2_0 : Memref sig .tc .vmem S2048x1792 .bf16).view
/-- One staging buffer of output window 3, through which its contents are stated (`View.read_writes_of_cover`: the
    choice does not matter). -/
abbrev VO1_3 : View sig .tc .vmem S1x1792 .f32 := (Memref.whole cc1_stg3_0 : Memref sig .tc .vmem S1x1792 .f32).view
/-- Each window's current staging memref at point `t`, spelled as the pipeline passes it (`bodyAt1`), and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1792 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1792 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1792 .f32 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S2048x1792 .f32 := Memref.whole cc1_scratch0
/-- The scratch `arg7` the kernel carries between points, as a view: what it holds is stated through it. -/
abbrev VS1_0 : View sig .tc .vmem S2048x1792 .f32 := scM1_0.view

/-- The scoped buffers of the other two calls, each whole at some contents: nothing of this call reads or writes them. -/
abbrev Rest1 (c : Dev nD) : sProp 𝕄 :=
  Pipeline.scopedRestBut (Ix := Unit) (Name := ℕ) (U := UR sig nD τ) (Lvl := ℕ) (Val := Elt F) spec1 c [cc1_scratch0]

/-- The frame kit's invariant with the scratch operands as memrefs owned at some contents (`Gen.scopedRest1_split`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [scopedRest1_split]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 18, … 558: 32 of 576), WITH the
    proof that on whole staging memrefs — the inputs' at their contents, the outputs it leaves idle (2, 3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : cond1_0 i) (hc1 : ¬cond1_1 i)
    (x0 : Vec F S2048x1024 .bf16) (x1 : Vec F S1024x1792 .bf16) :
    Σ' (L2 : List (View.Piece (Elt F) S2048x1792 .bf16)), Σ' (L3 : List (View.Piece (Elt F) S1x1792 .f32)), { LS0 : List (View.Piece (Elt F) S2048x1792 .f32) //
      ∀ (xi2 : Vec F S2048x1792 .bf16) (xi3 : Vec F S1x1792 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_fwd i arg3 harg3 arg4 harg4 arg5 harg5 arg6 harg6 arg7 harg7) K } := by
  refine ⟨[], [], ?_, fun xi2 xi3 E K => ?run⟩
  case run =>
    simp only [cc1_fwd_eq_skeleton]; unfold cc1_fwd_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Case A stores nothing into output 2 (the window is idle at its points and not written back there):
    no pieces — a placeholder (junk read back) that nothing consults, since at these points the window is neither
    written back nor read at the next point (Lib/Pipeline.lean "Idle points"). -/
def out1_A_2 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : cond1_0 i) (hc1 : ¬cond1_1 i)
    (x0 : Vec F S2048x1024 .bf16) (x1 : Vec F S1024x1792 .bf16) : Vec F S2048x1792 .bf16 :=
  VO1_2.read (Elt F) (VO1_2.writes (Elt F) VO1_2.junk (kernelRun1_A c i arg3 harg3 arg4 harg4 arg5 harg5 arg6 harg6 arg7 harg7 hc0 hc1 x0 x1).1)

/-- Case A stores nothing into output 3 (the window is idle at its points and not written back there) and another
    case keeps its prior contents (reads it before covering, or covers it in part): what its buffer holds after the body is what the
    point before left, CARRIED — an argument of this term alone, which the run does not take (Lib/Pipeline/TableIdle.lean `Dat.before_out_traj`). -/
def out1_A_3 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : cond1_0 i) (hc1 : ¬cond1_1 i)
    (x0 : Vec F S2048x1024 .bf16) (x1 : Vec F S1024x1792 .bf16) (xo3 : Vec F S1x1792 .f32) : Vec F S1x1792 .f32 := xo3

/-- Case A's pieces for scratch `arg7`, which the kernel carries between points, cover it: 2 pieces of `S2048x1792` tiling it (Lib/Ring.lean `Piece.tiledL`). -/
theorem scover1_A_0 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : cond1_0 i) (hc1 : ¬cond1_1 i)
    (x0 : Vec F S2048x1024 .bf16) (x1 : Vec F S1024x1792 .bf16) (y : S2048x1792.Idx) :
    ∃ pc ∈ (kernelRun1_A c i arg3 harg3 arg4 harg4 arg5 harg5 arg6 harg6 arg7 harg7 hc0 hc1 x0 x1).2.2.1, y ∈ pc.1.set :=
  View.cover_of_tiledL (kernelRun1_A c i arg3 harg3 arg4 harg4 arg5 harg5 arg6 harg6 arg7 harg7 hc0 hc1 x0 x1).2.2.1 S2048x1792.size (by sl_kernel_rfl) y

/-- What case A leaves in scratch `arg7`: its pieces read back over junk. -/
def sout1_A_0 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : cond1_0 i) (hc1 : ¬cond1_1 i)
    (x0 : Vec F S2048x1024 .bf16) (x1 : Vec F S1024x1792 .bf16) : Vec F S2048x1792 .f32 :=
  VS1_0.read (Elt F) (VS1_0.writes (Elt F) VS1_0.junk (kernelRun1_A c i arg3 harg3 arg4 harg4 arg5 harg5 arg6 harg6 arg7 harg7 hc0 hc1 x0 x1).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 574: 512 of 576), WITH the
    proof that on whole staging memrefs — the inputs' at their contents, the outputs it leaves idle (2, 3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : ¬cond1_1 i)
    (x0 : Vec F S2048x1024 .bf16) (x1 : Vec F S1024x1792 .bf16) (xs0 : Vec F S2048x1792 .f32) :
    Σ' (L2 : List (View.Piece (Elt F) S2048x1792 .bf16)), Σ' (L3 : List (View.Piece (Elt F) S1x1792 .f32)), { LS0 : List (View.Piece (Elt F) S2048x1792 .f32) //
      ∀ (xi2 : Vec F S2048x1792 .bf16) (xi3 : Vec F S1x1792 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_fwd i arg3 harg3 arg4 harg4 arg5 harg5 arg6 harg6 arg7 harg7) K } := by
  refine ⟨[], [], ?_, fun xi2 xi3 E K => ?run⟩
  case run =>
    simp only [cc1_fwd_eq_skeleton]; unfold cc1_fwd_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Case B stores nothing into output 2 (the window is idle at its points and not written back there):
    no pieces — a placeholder (junk read back) that nothing consults, since at these points the window is neither
    written back nor read at the next point (Lib/Pipeline.lean "Idle points"). -/
def out1_B_2 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : ¬cond1_1 i)
    (x0 : Vec F S2048x1024 .bf16) (x1 : Vec F S1024x1792 .bf16) (xs0 : Vec F S2048x1792 .f32) : Vec F S2048x1792 .bf16 :=
  VO1_2.read (Elt F) (VO1_2.writes (Elt F) VO1_2.junk (kernelRun1_B c i arg3 harg3 arg4 harg4 arg5 harg5 arg6 harg6 arg7 harg7 hc0 hc1 x0 x1 xs0).1)

/-- Case B stores nothing into output 3 (the window is idle at its points and not written back there) and another
    case keeps its prior contents (reads it before covering, or covers it in part): what its buffer holds after the body is what the
    point before left, CARRIED — an argument of this term alone, which the run does not take (Lib/Pipeline/TableIdle.lean `Dat.before_out_traj`). -/
def out1_B_3 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : ¬cond1_1 i)
    (x0 : Vec F S2048x1024 .bf16) (x1 : Vec F S1024x1792 .bf16) (xs0 : Vec F S2048x1792 .f32) (xo3 : Vec F S1x1792 .f32) : Vec F S1x1792 .f32 := xo3

/-- Case B's pieces for scratch `arg7`, which the kernel carries between points, cover it: 1 piece of `S2048x1792` tiling it (Lib/Ring.lean `Piece.tiledL`). -/
theorem scover1_B_0 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : ¬cond1_1 i)
    (x0 : Vec F S2048x1024 .bf16) (x1 : Vec F S1024x1792 .bf16) (xs0 : Vec F S2048x1792 .f32) (y : S2048x1792.Idx) :
    ∃ pc ∈ (kernelRun1_B c i arg3 harg3 arg4 harg4 arg5 harg5 arg6 harg6 arg7 harg7 hc0 hc1 x0 x1 xs0).2.2.1, y ∈ pc.1.set :=
  View.cover_of_tiledL (kernelRun1_B c i arg3 harg3 arg4 harg4 arg5 harg5 arg6 harg6 arg7 harg7 hc0 hc1 x0 x1 xs0).2.2.1 S2048x1792.size (by sl_kernel_rfl) y

/-- What case B leaves in scratch `arg7`: its pieces read back over junk. -/
def sout1_B_0 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : ¬cond1_1 i)
    (x0 : Vec F S2048x1024 .bf16) (x1 : Vec F S1024x1792 .bf16) (xs0 : Vec F S2048x1792 .f32) : Vec F S2048x1792 .f32 :=
  VS1_0.read (Elt F) (VS1_0.writes (Elt F) VS1_0.junk (kernelRun1_B c i arg3 harg3 arg4 harg4 arg5 harg5 arg6 harg6 arg7 harg7 hc0 hc1 x0 x1 xs0).2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 17, 161, 305, 449), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : cond1_2 i)
    (x0 : Vec F S2048x1024 .bf16) (x1 : Vec F S1024x1792 .bf16) (xs0 : Vec F S2048x1792 .f32) :
    Σ' (L2 : List (View.Piece (Elt F) S2048x1792 .bf16)), Σ' (L3 : List (View.Piece (Elt F) S1x1792 .f32)), { LS0 : List (View.Piece (Elt F) S2048x1792 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1_fwd i arg3 harg3 arg4 harg4 arg5 harg5 arg6 harg6 arg7 harg7) K } := by
  refine ⟨?_, ?_, ?_, fun E K => ?run⟩
  case run =>
    simp only [cc1_fwd_eq_skeleton]; unfold cc1_fwd_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1; obtain rfl := harg7.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

/-- Case C's pieces for output 2 tile its block (1 store of `S2048x1792`, checked by the kernel's evaluation: Lib/Ring.lean `Piece.tiledL`, linear in the pieces, through a loop's `@[irreducible]` trip theorem too), so they cover it. -/
theorem cover1_C_2 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : cond1_2 i)
    (x0 : Vec F S2048x1024 .bf16) (x1 : Vec F S1024x1792 .bf16) (xs0 : Vec F S2048x1792 .f32) (y : S2048x1792.Idx) :
    ∃ pc ∈ (kernelRun1_C c i arg3 harg3 arg4 harg4 arg5 harg5 arg6 harg6 arg7 harg7 hc0 hc1 hc2 x0 x1 xs0).1, y ∈ pc.1.set :=
  View.cover_of_tiledL (kernelRun1_C c i arg3 harg3 arg4 harg4 arg5 harg5 arg6 harg6 arg7 harg7 hc0 hc1 hc2 x0 x1 xs0).1 S2048x1792.size (by sl_kernel_rfl) y

/-- What case C leaves in output 2's staging buffer: its pieces read back over junk. -/
def out1_C_2 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : cond1_2 i)
    (x0 : Vec F S2048x1024 .bf16) (x1 : Vec F S1024x1792 .bf16) (xs0 : Vec F S2048x1792 .f32) : Vec F S2048x1792 .bf16 :=
  VO1_2.read (Elt F) (VO1_2.writes (Elt F) VO1_2.junk (kernelRun1_C c i arg3 harg3 arg4 harg4 arg5 harg5 arg6 harg6 arg7 harg7 hc0 hc1 hc2 x0 x1 xs0).1)

/-- Case C's pieces for output 3 tile its block (2 stores of `S1x1792`, checked by the kernel's evaluation: Lib/Ring.lean `Piece.tiledL`, linear in the pieces, through a loop's `@[irreducible]` trip theorem too), so they cover it. -/
theorem cover1_C_3 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : cond1_2 i)
    (x0 : Vec F S2048x1024 .bf16) (x1 : Vec F S1024x1792 .bf16) (xs0 : Vec F S2048x1792 .f32) (y : S1x1792.Idx) :
    ∃ pc ∈ (kernelRun1_C c i arg3 harg3 arg4 harg4 arg5 harg5 arg6 harg6 arg7 harg7 hc0 hc1 hc2 x0 x1 xs0).2.1, y ∈ pc.1.set :=
  View.cover_of_tiledL (kernelRun1_C c i arg3 harg3 arg4 harg4 arg5 harg5 arg6 harg6 arg7 harg7 hc0 hc1 hc2 x0 x1 xs0).2.1 S1x1792.size (by sl_kernel_rfl) y

/-- What case C leaves in output 3's staging buffer: its pieces read back over junk. -/
def out1_C_3 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : cond1_2 i)
    (x0 : Vec F S2048x1024 .bf16) (x1 : Vec F S1024x1792 .bf16) (xs0 : Vec F S2048x1792 .f32) : Vec F S1x1792 .f32 :=
  VO1_3.read (Elt F) (VO1_3.writes (Elt F) VO1_3.junk (kernelRun1_C c i arg3 harg3 arg4 harg4 arg5 harg5 arg6 harg6 arg7 harg7 hc0 hc1 hc2 x0 x1 xs0).2.1)

/-- Case C's pieces for scratch `arg7`, which the kernel carries between points, cover it: 1 piece of `S2048x1792` tiling it (Lib/Ring.lean `Piece.tiledL`). -/
theorem scover1_C_0 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : cond1_2 i)
    (x0 : Vec F S2048x1024 .bf16) (x1 : Vec F S1024x1792 .bf16) (xs0 : Vec F S2048x1792 .f32) (y : S2048x1792.Idx) :
    ∃ pc ∈ (kernelRun1_C c i arg3 harg3 arg4 harg4 arg5 harg5 arg6 harg6 arg7 harg7 hc0 hc1 hc2 x0 x1 xs0).2.2.1, y ∈ pc.1.set :=
  View.cover_of_tiledL (kernelRun1_C c i arg3 harg3 arg4 harg4 arg5 harg5 arg6 harg6 arg7 harg7 hc0 hc1 hc2 x0 x1 xs0).2.2.1 S2048x1792.size (by sl_kernel_rfl) y

/-- What case C leaves in scratch `arg7`: its pieces read back over junk. -/
def sout1_C_0 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : cond1_2 i)
    (x0 : Vec F S2048x1024 .bf16) (x1 : Vec F S1024x1792 .bf16) (xs0 : Vec F S2048x1792 .f32) : Vec F S2048x1792 .f32 :=
  VS1_0.read (Elt F) (VS1_0.writes (Elt F) VS1_0.junk (kernelRun1_C c i arg3 harg3 arg4 harg4 arg5 harg5 arg6 harg6 arg7 harg7 hc0 hc1 hc2 x0 x1 xs0).2.2.1)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 not taken: points 35, 53, … 575: 28 of 576), WITH the
    proof that on whole staging memrefs — the inputs' at their contents, the outputs it reads before covering (3) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_D (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : ¬cond1_2 i)
    (x0 : Vec F S2048x1024 .bf16) (x1 : Vec F S1024x1792 .bf16) (xo3 : Vec F S1x1792 .f32) (xs0 : Vec F S2048x1792 .f32) :
    Σ' (L2 : List (View.Piece (Elt F) S2048x1792 .bf16)), Σ' (L3 : List (View.Piece (Elt F) S1x1792 .f32)), { LS0 : List (View.Piece (Elt F) S2048x1792 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3 ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1_fwd i arg3 harg3 arg4 harg4 arg5 harg5 arg6 harg6 arg7 harg7) K } := by
  refine ⟨?_, ?_, ?_, fun E K => ?run⟩
  case run =>
    simp only [cc1_fwd_eq_skeleton]; unfold cc1_fwd_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg3.eq_unread hf0; obtain rfl := harg4.eq_unread hf1; obtain rfl := harg6.eq_unread hf3; obtain rfl := harg7.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

/-- Case D's pieces for output 2 tile its block (1 store of `S2048x1792`, checked by the kernel's evaluation: Lib/Ring.lean `Piece.tiledL`, linear in the pieces, through a loop's `@[irreducible]` trip theorem too), so they cover it. -/
theorem cover1_D_2 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : ¬cond1_2 i)
    (x0 : Vec F S2048x1024 .bf16) (x1 : Vec F S1024x1792 .bf16) (xo3 : Vec F S1x1792 .f32) (xs0 : Vec F S2048x1792 .f32) (y : S2048x1792.Idx) :
    ∃ pc ∈ (kernelRun1_D c i arg3 harg3 arg4 harg4 arg5 harg5 arg6 harg6 arg7 harg7 hc0 hc1 hc2 x0 x1 xo3 xs0).1, y ∈ pc.1.set :=
  View.cover_of_tiledL (kernelRun1_D c i arg3 harg3 arg4 harg4 arg5 harg5 arg6 harg6 arg7 harg7 hc0 hc1 hc2 x0 x1 xo3 xs0).1 S2048x1792.size (by sl_kernel_rfl) y

/-- What case D leaves in output 2's staging buffer: its pieces read back over junk. -/
def out1_D_2 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : ¬cond1_2 i)
    (x0 : Vec F S2048x1024 .bf16) (x1 : Vec F S1024x1792 .bf16) (xo3 : Vec F S1x1792 .f32) (xs0 : Vec F S2048x1792 .f32) : Vec F S2048x1792 .bf16 :=
  VO1_2.read (Elt F) (VO1_2.writes (Elt F) VO1_2.junk (kernelRun1_D c i arg3 harg3 arg4 harg4 arg5 harg5 arg6 harg6 arg7 harg7 hc0 hc1 hc2 x0 x1 xo3 xs0).1)

/-- Case D's pieces for output 3 tile its block (1 store of `S1x1792`, checked by the kernel's evaluation: Lib/Ring.lean `Piece.tiledL`, linear in the pieces, through a loop's `@[irreducible]` trip theorem too), so they cover it. -/
theorem cover1_D_3 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : ¬cond1_2 i)
    (x0 : Vec F S2048x1024 .bf16) (x1 : Vec F S1024x1792 .bf16) (xo3 : Vec F S1x1792 .f32) (xs0 : Vec F S2048x1792 .f32) (y : S1x1792.Idx) :
    ∃ pc ∈ (kernelRun1_D c i arg3 harg3 arg4 harg4 arg5 harg5 arg6 harg6 arg7 harg7 hc0 hc1 hc2 x0 x1 xo3 xs0).2.1, y ∈ pc.1.set :=
  View.cover_of_tiledL (kernelRun1_D c i arg3 harg3 arg4 harg4 arg5 harg5 arg6 harg6 arg7 harg7 hc0 hc1 hc2 x0 x1 xo3 xs0).2.1 S1x1792.size (by sl_kernel_rfl) y

/-- What case D leaves in output 3's staging buffer: its pieces read back over junk. -/
def out1_D_3 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : ¬cond1_2 i)
    (x0 : Vec F S2048x1024 .bf16) (x1 : Vec F S1024x1792 .bf16) (xo3 : Vec F S1x1792 .f32) (xs0 : Vec F S2048x1792 .f32) : Vec F S1x1792 .f32 :=
  VO1_3.read (Elt F) (VO1_3.writes (Elt F) VO1_3.junk (kernelRun1_D c i arg3 harg3 arg4 harg4 arg5 harg5 arg6 harg6 arg7 harg7 hc0 hc1 hc2 x0 x1 xo3 xs0).2.1)

/-- Case D's pieces for scratch `arg7`, which the kernel carries between points, cover it: 1 piece of `S2048x1792` tiling it (Lib/Ring.lean `Piece.tiledL`). -/
theorem scover1_D_0 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : ¬cond1_2 i)
    (x0 : Vec F S2048x1024 .bf16) (x1 : Vec F S1024x1792 .bf16) (xo3 : Vec F S1x1792 .f32) (xs0 : Vec F S2048x1792 .f32) (y : S2048x1792.Idx) :
    ∃ pc ∈ (kernelRun1_D c i arg3 harg3 arg4 harg4 arg5 harg5 arg6 harg6 arg7 harg7 hc0 hc1 hc2 x0 x1 xo3 xs0).2.2.1, y ∈ pc.1.set :=
  View.cover_of_tiledL (kernelRun1_D c i arg3 harg3 arg4 harg4 arg5 harg5 arg6 harg6 arg7 harg7 hc0 hc1 hc2 x0 x1 xo3 xs0).2.2.1 S2048x1792.size (by sl_kernel_rfl) y

/-- What case D leaves in scratch `arg7`: its pieces read back over junk. -/
def sout1_D_0 (c : Dev nD) (i : grid1.Coords) (arg3 : Memref sig .tc .vmem S2048x1024 .bf16) (harg3 : arg3.IsWhole) (arg4 : Memref sig .tc .vmem S1024x1792 .bf16) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x1792 .f32) (harg7 : arg7.IsWhole) (hc0 : ¬cond1_0 i) (hc1 : cond1_1 i) (hc2 : ¬cond1_2 i)
    (x0 : Vec F S2048x1024 .bf16) (x1 : Vec F S1024x1792 .bf16) (xo3 : Vec F S1x1792 .f32) (xs0 : Vec F S2048x1792 .f32) : Vec F S2048x1792 .f32 :=
  VS1_0.read (Elt F) (VS1_0.writes (Elt F) VS1_0.junk (kernelRun1_D c i arg3 harg3 arg4 harg4 arg5 harg5 arg6 harg6 arg7 harg7 hc0 hc1 hc2 x0 x1 xo3 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S2048x1792 .bf16 × Vec F S1x1792 .f32 × Vec F S2048x1792 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) ((VO1_2.read (Elt F) VO1_2.junk, VO1_3.read (Elt F) VO1_3.junk, VS1_0.read (Elt F) VS1_0.junk) : Vec F S2048x1792 .bf16 × Vec F S1x1792 .f32 × Vec F S2048x1792 .f32).2.1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 18 = 0 then
      if h1 : (n + 1) % 18 = 17 then
        False.elim (by have hN : n + 1 < 576 := lt_of_lt_of_eq hn (show cfg1.N = 576 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (outsAt1 c n (Nat.lt_of_succ_lt hn)).2.1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 18 = 17 then
        if h2 : (n + 1) / 18 % 8 = 0 then
          (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (outsAt1 c n (Nat.lt_of_succ_lt hn)).2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (outsAt1 c n (Nat.lt_of_succ_lt hn)).2.2)
        else
          (out1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2 (outsAt1 c n (Nat.lt_of_succ_lt hn)).2.1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2)

/-- `outsAt1` at a point of case A: that case's contents, over what the point before left. -/
theorem outsAt1_A (c : Dev nD) (t : Fin cfg1.N) (h0 : t.val % 18 = 0) (h1 : ¬t.val % 18 = 17) :
    outsAt1 V c t.val t.isLt = (out1_A_2 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (outsAt1 V c (t.val - 1) (Nat.lt_of_le_of_lt (Nat.sub_le _ _) t.isLt)).2.1, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 18 = 0) (h1 : ¬t.val % 18 = 17) :
    outsAt1 V c t.val t.isLt = (out1_B_2 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2, out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2 (outsAt1 V c (t.val - 1) (Nat.lt_of_le_of_lt (Nat.sub_le _ _) t.isLt)).2.1, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 18 = 0) (h1 : t.val % 18 = 17) (h2 : t.val / 18 % 8 = 0) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) ((hcond1_2 t).mpr h2) (iblk1 V c 0 t) (iblk1 V c 1 t) (outsAt1 V c (t.val - 1) (Nat.lt_of_le_of_lt (Nat.sub_le _ _) t.isLt)).2.2, out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) ((hcond1_2 t).mpr h2) (iblk1 V c 0 t) (iblk1 V c 1 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) ((hcond1_2 t).mpr h2) (iblk1 V c 0 t) (iblk1 V c 1 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- `outsAt1` at a point of case D: that case's contents, over what the point before left. -/
theorem outsAt1_D (c : Dev nD) (t : Fin cfg1.N) (h0 : ¬t.val % 18 = 0) (h1 : t.val % 18 = 17) (h2 : ¬t.val / 18 % 8 = 0) :
    outsAt1 V c t.val t.isLt = (out1_D_2 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (fun h => h2 ((hcond1_2 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, out1_D_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (fun h => h2 ((hcond1_2 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_D_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (fun h => h2 ((hcond1_2 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Rest1 c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.2) ∗ Rest1 c) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2) ∗ Rest1 c) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Output 3's contents CARRY through the points that leave it idle: at such a point, its buffer not fresh, the proof data's
    `after` is the point before's (the case there stores nothing into the window and its term says so; a case that stores
    into it is not idle there by `liveAt1_3_κ`) — the hypothesis of Lib/Pipeline/TableIdle.lean `Dat.before_out_traj`. -/
theorem hcarry1_3 (c : Dev nD) : ∀ (t : Fin cfg1.N) (_ : t.val ≠ 0), cfg1.idle 3 (grid1.coords t) = true → cfg1.fresh 3 t.val = false →
    (dat1 V c).after 3 t = (dat1 V c).after 3 ⟨t.val - 1, by omega⟩ := by
  intro t _ hi _
  have hN : t.val < 576 := lt_of_lt_of_eq t.isLt (show cfg1.N = 576 from N_1)
  rw [after1_3, after1_3]
  by_cases h0 : t.val % 18 = 0
  · by_cases h1 : t.val % 18 = 17
    · exfalso; omega
    · rw [outsAt1_A V c t h0 h1]
      dsimp only
      unfold out1_A_3
      rfl
  · by_cases h1 : t.val % 18 = 17
    · by_cases h2 : t.val / 18 % 8 = 0
      · rw [liveAt1_3_C t (fun h => h0 ((hcond1_0 t).mp h)) ((hcond1_1 t).mpr h1) ((hcond1_2 t).mpr h2)] at hi
        exact absurd hi Bool.false_ne_true
      · rw [liveAt1_3_D t (fun h => h0 ((hcond1_0 t).mp h)) ((hcond1_1 t).mpr h1) (fun h => h2 ((hcond1_2 t).mp h))] at hi
        exact absurd hi Bool.false_ne_true
    · rw [outsAt1_B V c t h0 h1]
      dsimp only
      unfold out1_B_3
      rfl
/-- At a point of case D output 3's current staging buffer holds what the point before left: the buffer is not fresh
    there (`notFresh1_3_D`: stored into since the region's entry or the last write-back, carried through the points that
    leave it idle by `hcarry1_3`; Lib/Pipeline/TableIdle.lean `Dat.before_out_traj`). -/
theorem before1_3_D (c : Dev nD) (t : Fin cfg1.N) (h0 : ¬t.val % 18 = 0) (h1 : t.val % 18 = 17) (h2 : ¬t.val / 18 % 8 = 0) (d) :
    (dat1 V c).before 3 t d = (outsAt1 V c (t.val - 1) (Nat.lt_of_le_of_lt (Nat.sub_le _ _) t.isLt)).2.1 := by
  rw [Dat.before_out_traj _ 3 rfl (fun _ _ => rfl) (hcarry1_3 V c) t.val t rfl d,
    if_neg (by rw [notFresh1_3_D t (fun h => h0 ((hcond1_0 t).mp h)) ((hcond1_1 t).mpr h1) (fun h => h2 ((hcond1_2 t).mp h))]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 576 := lt_of_lt_of_eq t.isLt (show cfg1.N = 576 from N_1)
  by_cases h0 : t.val % 18 = 0
  · by_cases h1 : t.val % 18 = 17
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS_castSucc V c t, PhiS_pos V c _ _ hz]
        rw [outsAt1_A V c t h0 h1]
        unfold sout1_A_0; (try dsimp only)
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · by_cases h1 : t.val % 18 = 17
    · by_cases h2 : t.val / 18 % 8 = 0
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2_C t (fun h => h0 ((hcond1_0 t).mp h)) ((hcond1_1 t).mpr h1) ((hcond1_2 t).mpr h2)], after1_2]
        rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1) ((hcond1_2 t).mpr h2)], after1_3]
        by_cases hz : t.val = 0
        · exfalso; have hN : t.val < 576 := lt_of_lt_of_eq t.isLt (show cfg1.N = 576 from N_1); omega
        · rw [PhiS_castSucc V c t, PhiS_pos V c _ _ hz]
          rw [outsAt1_C V c t h0 h1 h2]
          unfold out1_C_2 out1_C_3 sout1_C_0; (try dsimp only)
          iintro ⟨⟨⟨HS0, HR⟩, Hg⟩, Ho, ⟨%d0, H0⟩, ⟨%d1, H1⟩, ⟨%d2, H2⟩, ⟨%d3, H3⟩⟩
          iapply ((kernelRun1_C c (grid1.coords t) _ _ _ _ _ _ _ _ _ _ (fun h => h0 ((hcond1_0 t).mp h)) ((hcond1_1 t).mpr h1) ((hcond1_2 t).mpr h2) (iblk1 V c 0 t) (iblk1 V c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_C_0 c _ _ _ _ _ _ _ _ _ _ _ _ _ _ _ _ _)
              iexact HR
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover1_C_2 c _ _ _ _ _ _ _ _ _ _ _ _ _ _ _ _ _)
          unfold owns; iexists _; isplitr
          swap; · iexact H3
          ipureintro; exact View.read_writes_of_cover _ _ _ _ _ (cover1_C_3 c _ _ _ _ _ _ _ _ _ _ _ _ _ _ _ _ _)
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2_D t (fun h => h0 ((hcond1_0 t).mp h)) ((hcond1_1 t).mpr h1) (fun h => h2 ((hcond1_2 t).mp h))], after1_2]
        rw [show (dat1 V c).leavesExact 3 t = owns (c : Thread nD τ) (ms1_3 t) fullShare ((dat1 V c).after 3 t) from by
      unfold Dat.leavesExact; rw [liveAt1_3_D t (fun h => h0 ((hcond1_0 t).mp h)) ((hcond1_1 t).mpr h1) (fun h => h2 ((hcond1_2 t).mp h))], after1_3]
        by_cases hz : t.val = 0
        · exfalso; have hN : t.val < 576 := lt_of_lt_of_eq t.isLt (show cfg1.N = 576 from N_1); omega
        · rw [PhiS_castSucc V c t, PhiS_pos V c _ _ hz]
          rw [outsAt1_D V c t h0 h1 h2]
          simp only [before1_3_D V c t h0 h1 h2]
          unfold out1_D_2 out1_D_3 sout1_D_0; (try dsimp only)
          iintro ⟨⟨⟨HS0, HR⟩, Hg⟩, Ho, ⟨%d0, H0⟩, ⟨%d1, H1⟩, ⟨%d2, H2⟩, ⟨%d3, H3⟩⟩
          iapply ((kernelRun1_D c (grid1.coords t) _ _ _ _ _ _ _ _ _ _ (fun h => h0 ((hcond1_0 t).mp h)) ((hcond1_1 t).mpr h1) (fun h => h2 ((hcond1_2 t).mp h)) (iblk1 V c 0 t) (iblk1 V c 1 t) _ _).2.2.2 Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, ⟨%e3, H3⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_D_0 c _ _ _ _ _ _ _ _ _ _ _ _ _ _ _ _ _ _)
              iexact HR
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover1_D_2 c _ _ _ _ _ _ _ _ _ _ _ _ _ _ _ _ _ _)
          unfold owns; iexists _; isplitr
          swap; · iexact H3
          ipureintro; exact View.read_writes_of_cover _ _ _ _ _ (cover1_D_3 c _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      by_cases hz : t.val = 0
      · exfalso; have hN : t.val < 576 := lt_of_lt_of_eq t.isLt (show cfg1.N = 576 from N_1); omega
      · rw [PhiS_castSucc V c t, PhiS_pos V c _ _ hz]
        rw [outsAt1_B V c t h0 h1]
        unfold sout1_B_0; (try dsimp only)
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) _).2.2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 576 := N_1; omega)

end Regions

end Cert.KernelIdeal.Run

end
-- ==== Proof.Run.Region2.lean ====
/- The third call (`bwd`): the accumulation in the result window, the body at each grid point, the proof data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_bwd` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 2).val) 0#32)) 0#32) = 1#1
/-- It holds at the points ≡ 0 (mod 16) — by arithmetic of the point. -/
theorem hcond2_0 : ∀ t : Fin cfg2.N, cond2_0 (grid2.coords t) ↔ t.val % 16 = 0 :=
  (fun t => by
    have ht : t.val < 1152 := Nat.lt_of_lt_of_eq t.isLt N_2
    have e0 : (grid2.coords t 0).val = t.val / 288 % 4 := Pipeline.Grid.coords_val t 0 (by decide) rfl
    have e1 : (grid2.coords t 1).val = t.val / 16 % 18 := Pipeline.Grid.coords_val t 1 (by decide) rfl
    have e2 : (grid2.coords t 2).val = t.val / 1 % 16 := Pipeline.Grid.coords_val t 2 (by decide) rfl
    simp only [cond2_0, e0, e1, e2]
    word_cmp
   : ∀ t : Fin grid2.N, cond2_0 (grid2.coords t) ↔ t.val % 16 = 0)

/-- The condition of the body's `scf.if` 1 (`k2_h2`), from the grid coordinates (the skeleton's scalar
    chain substituted). -/
abbrev cond2_1 (i : grid2.Coords) : Prop := k2_cond2 i = 1#1
/-- It holds at the points ≡ 15 (mod 16) — by arithmetic of the point. -/
theorem hcond2_1 : ∀ t : Fin cfg2.N, cond2_1 (grid2.coords t) ↔ t.val % 16 = 15 :=
  (fun t => by
    have ht : t.val < 1152 := Nat.lt_of_lt_of_eq t.isLt N_2
    have e0 : (grid2.coords t 0).val = t.val / 288 % 4 := Pipeline.Grid.coords_val t 0 (by decide) rfl
    have e1 : (grid2.coords t 1).val = t.val / 16 % 18 := Pipeline.Grid.coords_val t 1 (by decide) rfl
    have e2 : (grid2.coords t 2).val = t.val / 1 % 16 := Pipeline.Grid.coords_val t 2 (by decide) rfl
    simp only [cond2_1, k2_cond2, e0, e1, e2]
    word_cmp
   : ∀ t : Fin grid2.N, cond2_1 (grid2.coords t) ↔ t.val % 16 = 15)

/-! ## The kernel body on any staging memrefs: a subtype the run finds -/

/-- One staging buffer of output window 5, through which its contents are stated (`View.read_writes_of_cover`: the
    choice does not matter). -/
abbrev VO2_5 : View sig .tc .vmem S1024x1792 .f32 := (Memref.whole cc2_stg5_0 : Memref sig .tc .vmem S1024x1792 .f32).view
/-- Each window's current staging memref at point `t`, spelled as the pipeline passes it (`bodyAt2`), and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1792 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1792 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1792 .i8 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x1792 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1792 .f32 := win2_5.stage (cfg2.slots t 5)
abbrev hs2_5 (t : Fin cfg2.N) : (ms2_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 1136: 72 of 1152), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (hc0 : cond2_0 i) (hc1 : ¬cond2_1 i)
    (x0 : Vec F S1024x1024 .bf16) (x1 : Vec F S1024x1792 .bf16) (x2 : Vec F S1024x1792 .f32) (x3 : Vec F S1024x1792 .i8) (x4 : Vec F S16x1792 .f32) :
    { L5 : List (View.Piece (Elt F) S1024x1792 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc2_bwd i arg3 harg3 arg4 harg4 arg5 harg5 arg6 harg6 arg7 harg7 arg8 harg8) K } := by
  refine ⟨?_, fun E K => ?run⟩
  case run =>
    simp only [cc2_bwd_eq_skeleton]; unfold cc2_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

/-- Case A's pieces for output 5 tile its block (2 stores of `S1024x1792`, checked by the kernel's evaluation: Lib/Ring.lean `Piece.tiledL`, linear in the pieces, through a loop's `@[irreducible]` trip theorem too), so they cover it. -/
theorem cover2_A_5 (c : Dev nD) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (hc0 : cond2_0 i) (hc1 : ¬cond2_1 i)
    (x0 : Vec F S1024x1024 .bf16) (x1 : Vec F S1024x1792 .bf16) (x2 : Vec F S1024x1792 .f32) (x3 : Vec F S1024x1792 .i8) (x4 : Vec F S16x1792 .f32) (y : S1024x1792.Idx) :
    ∃ pc ∈ (kernelRun2_A c i arg3 harg3 arg4 harg4 arg5 harg5 arg6 harg6 arg7 harg7 arg8 harg8 hc0 hc1 x0 x1 x2 x3 x4).1, y ∈ pc.1.set :=
  View.cover_of_tiledL (kernelRun2_A c i arg3 harg3 arg4 harg4 arg5 harg5 arg6 harg6 arg7 harg7 arg8 harg8 hc0 hc1 x0 x1 x2 x3 x4).1 S1024x1792.size (by sl_kernel_rfl) y

/-- What case A leaves in output 5's staging buffer: its pieces read back over junk. -/
def out2_A_5 (c : Dev nD) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (hc0 : cond2_0 i) (hc1 : ¬cond2_1 i)
    (x0 : Vec F S1024x1024 .bf16) (x1 : Vec F S1024x1792 .bf16) (x2 : Vec F S1024x1792 .f32) (x3 : Vec F S1024x1792 .i8) (x4 : Vec F S16x1792 .f32) : Vec F S1024x1792 .f32 :=
  VO2_5.read (Elt F) (VO2_5.writes (Elt F) VO2_5.junk (kernelRun2_A c i arg3 harg3 arg4 harg4 arg5 harg5 arg6 harg6 arg7 harg7 arg8 harg8 hc0 hc1 x0 x1 x2 x3 x4).1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 1150: 1008 of 1152), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (hc0 : ¬cond2_0 i) (hc1 : ¬cond2_1 i)
    (x0 : Vec F S1024x1024 .bf16) (x1 : Vec F S1024x1792 .bf16) (x2 : Vec F S1024x1792 .f32) (x3 : Vec F S1024x1792 .i8) (x4 : Vec F S16x1792 .f32) (xo5 : Vec F S1024x1792 .f32) :
    { L5 : List (View.Piece (Elt F) S1024x1792 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc2_bwd i arg3 harg3 arg4 harg4 arg5 harg5 arg6 harg6 arg7 harg7 arg8 harg8) K } := by
  refine ⟨?_, fun E K => ?run⟩
  case run =>
    simp only [cc2_bwd_eq_skeleton]; unfold cc2_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

/-- Case B's pieces for output 5 tile its block (1 store of `S1024x1792`, checked by the kernel's evaluation: Lib/Ring.lean `Piece.tiledL`, linear in the pieces, through a loop's `@[irreducible]` trip theorem too), so they cover it. -/
theorem cover2_B_5 (c : Dev nD) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (hc0 : ¬cond2_0 i) (hc1 : ¬cond2_1 i)
    (x0 : Vec F S1024x1024 .bf16) (x1 : Vec F S1024x1792 .bf16) (x2 : Vec F S1024x1792 .f32) (x3 : Vec F S1024x1792 .i8) (x4 : Vec F S16x1792 .f32) (xo5 : Vec F S1024x1792 .f32) (y : S1024x1792.Idx) :
    ∃ pc ∈ (kernelRun2_B c i arg3 harg3 arg4 harg4 arg5 harg5 arg6 harg6 arg7 harg7 arg8 harg8 hc0 hc1 x0 x1 x2 x3 x4 xo5).1, y ∈ pc.1.set :=
  View.cover_of_tiledL (kernelRun2_B c i arg3 harg3 arg4 harg4 arg5 harg5 arg6 harg6 arg7 harg7 arg8 harg8 hc0 hc1 x0 x1 x2 x3 x4 xo5).1 S1024x1792.size (by sl_kernel_rfl) y

/-- What case B leaves in output 5's staging buffer: its pieces read back over junk. -/
def out2_B_5 (c : Dev nD) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (hc0 : ¬cond2_0 i) (hc1 : ¬cond2_1 i)
    (x0 : Vec F S1024x1024 .bf16) (x1 : Vec F S1024x1792 .bf16) (x2 : Vec F S1024x1792 .f32) (x3 : Vec F S1024x1792 .i8) (x4 : Vec F S16x1792 .f32) (xo5 : Vec F S1024x1792 .f32) : Vec F S1024x1792 .f32 :=
  VO2_5.read (Elt F) (VO2_5.writes (Elt F) VO2_5.junk (kernelRun2_B c i arg3 harg3 arg4 harg4 arg5 harg5 arg6 harg6 arg7 harg7 arg8 harg8 hc0 hc1 x0 x1 x2 x3 x4 xo5).1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 1151: 72 of 1152), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (hc0 : ¬cond2_0 i) (hc1 : cond2_1 i)
    (x0 : Vec F S1024x1024 .bf16) (x1 : Vec F S1024x1792 .bf16) (x2 : Vec F S1024x1792 .f32) (x3 : Vec F S1024x1792 .i8) (x4 : Vec F S16x1792 .f32) (xo5 : Vec F S1024x1792 .f32) :
    { L5 : List (View.Piece (Elt F) S1024x1792 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc2_bwd i arg3 harg3 arg4 harg4 arg5 harg5 arg6 harg6 arg7 harg7 arg8 harg8) K } := by
  refine ⟨?_, fun E K => ?run⟩
  case run =>
    simp only [cc2_bwd_eq_skeleton]; unfold cc2_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

/-- Case C's pieces for output 5 are of SEVERAL sizes (17 stores of `S1024x1792`, `S64x1792`): cut into blocks of `![64, 1792]` they tile its block (checked by the kernel's evaluation: Lib/Ring.lean `Piece.tiledBy`), so they cover it. -/
theorem cover2_C_5 (c : Dev nD) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (hc0 : ¬cond2_0 i) (hc1 : cond2_1 i)
    (x0 : Vec F S1024x1024 .bf16) (x1 : Vec F S1024x1792 .bf16) (x2 : Vec F S1024x1792 .f32) (x3 : Vec F S1024x1792 .i8) (x4 : Vec F S16x1792 .f32) (xo5 : Vec F S1024x1792 .f32) (y : S1024x1792.Idx) :
    ∃ pc ∈ (kernelRun2_C c i arg3 harg3 arg4 harg4 arg5 harg5 arg6 harg6 arg7 harg7 arg8 harg8 hc0 hc1 x0 x1 x2 x3 x4 xo5).1, y ∈ pc.1.set :=
  View.cover_of_tiledBy (kernelRun2_C c i arg3 harg3 arg4 harg4 arg5 harg5 arg6 harg6 arg7 harg7 arg8 harg8 hc0 hc1 x0 x1 x2 x3 x4 xo5).1 ![64, 1792] (by sl_kernel_rfl) y

/-- What case C leaves in output 5's staging buffer: its pieces read back over junk. -/
def out2_C_5 (c : Dev nD) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (hc0 : ¬cond2_0 i) (hc1 : cond2_1 i)
    (x0 : Vec F S1024x1024 .bf16) (x1 : Vec F S1024x1792 .bf16) (x2 : Vec F S1024x1792 .f32) (x3 : Vec F S1024x1792 .i8) (x4 : Vec F S16x1792 .f32) (xo5 : Vec F S1024x1792 .f32) : Vec F S1024x1792 .f32 :=
  VO2_5.read (Elt F) (VO2_5.writes (Elt F) VO2_5.junk (kernelRun2_C c i arg3 harg3 arg4 harg4 arg5 harg5 arg6 harg6 arg7 harg7 arg8 harg8 hc0 hc1 x0 x1 x2 x3 x4 xo5).1)

/-! ## What the outputs hold after each point -/

/-- THE ACCUMULATION. What the outputs' staging buffers hold after the body at position `n`:
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1024x1792 .f32
  | 0, hn => out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn =>
    if h0 : (n + 1) % 16 = 0 then
      if h1 : (n + 1) % 16 = 15 then
        False.elim (by have hN : n + 1 < 1152 := lt_of_lt_of_eq hn (show cfg2.N = 1152 from N_2); omega)
      else
        out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    else
      if h1 : (n + 1) % 16 = 15 then
        out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))
      else
        out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))

/-- `outsAt2` at a point of case A: that case's contents. -/
theorem outsAt2_A (c : Dev nD) (t : Fin cfg2.N) (h0 : t.val % 16 = 0) (h1 : ¬t.val % 16 = 15) :
    outsAt2 V c t.val t.isLt = out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (fun h => h1 ((hcond2_1 t).mp h)) (iblk2 V c 0 t) (iblk2 V c 1 t) (iblk2 V c 2 t) (iblk2 V c 3 t) (iblk2 V c 4 t) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : ¬t.val % 16 = 15) :
    outsAt2 V c t.val t.isLt = out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 16 = 0) (h1 : t.val % 16 = 15) :
    outsAt2 V c t.val t.isLt = out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
/-- At a point of case B output 5's current staging buffer holds what the body left at the point before: the point is
    not the first, the buffer was not written back between (`flush2_5`), the window is live and uncut (Lib/Pipeline/Frame.lean
    `Dat.before_out_kept`). -/
theorem before2_5_B (c : Dev nD) (t : Fin cfg2.N) (h0 : ¬t.val % 16 = 0) (h1 : ¬t.val % 16 = 15) (d) :
    (dat2 V c).before 5 t d = (outsAt2 V c (t.val - 1) (Nat.lt_of_le_of_lt (Nat.sub_le _ _) t.isLt)) := by
  have hN : t.val < 1152 := lt_of_lt_of_eq t.isLt (show cfg2.N = 1152 from N_2)
  rw [Dat.before_out_kept _ 5 rfl t (by omega) (Bool.eq_false_iff.mpr fun h => by have := (flush2_5 _).mp h; dsimp only at this; omega)
    (fun _ => rfl) (fun _ _ => rfl)]
  dsimp only [dat2]
/-- At a point of case C output 5's current staging buffer holds what the body left at the point before: the point is
    not the first, the buffer was not written back between (`flush2_5`), the window is live and uncut (Lib/Pipeline/Frame.lean
    `Dat.before_out_kept`). -/
theorem before2_5_C (c : Dev nD) (t : Fin cfg2.N) (h0 : ¬t.val % 16 = 0) (h1 : t.val % 16 = 15) (d) :
    (dat2 V c).before 5 t d = (outsAt2 V c (t.val - 1) (Nat.lt_of_le_of_lt (Nat.sub_le _ _) t.isLt)) := by
  have hN : t.val < 1152 := lt_of_lt_of_eq t.isLt (show cfg2.N = 1152 from N_2)
  rw [Dat.before_out_kept _ 5 rfl t (by omega) (Bool.eq_false_iff.mpr fun h => by have := (flush2_5 _).mp h; dsimp only at this; omega)
    (fun _ => rfl) (fun _ _ => rfl)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 1200000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  have hN : t.val < 1152 := lt_of_lt_of_eq t.isLt (show cfg2.N = 1152 from N_2)
  by_cases h0 : t.val % 16 = 0
  · by_cases h1 : t.val % 16 = 15
    · exfalso; omega
    · rw [outsAt2_A V c t h0 h1]
      unfold out2_A_5
      iintro ⟨HΦ, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _)
  · by_cases h1 : t.val % 16 = 15
    · rw [outsAt2_C V c t h0 h1]
      simp only [before2_5_C V c t h0 h1]
      unfold out2_C_5
      iintro ⟨HΦ, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _)
    · rw [outsAt2_B V c t h0 h1]
      simp only [before2_5_B V c t h0 h1]
      unfold out2_B_5
      iintro ⟨HΦ, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_B_5 c _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.Run.Hosts.lean ====
/- The host operations around the three calls. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v4, main_v5, main_v6]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Run

end
-- ==== Proof.Run.Fold.lean ====
/- What every buffer holds at each boundary between the program's segments. -/
module

public import proofs.«01_k».proof.Proof.Run.Region0
public import proofs.«01_k».proof.Proof.Run.Region1
public import proofs.«01_k».proof.Proof.Run.Region2
public import proofs.«01_k».proof.Proof.Run.Hosts

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
end Cert.KernelIdeal.Run

end
-- ==== Proof.Run.State.lean ====
/- The three pipelines' proof data together, and the state a thread carries from segment to segment. -/
module

public import proofs.«01_k».proof.Proof.Run.Fold

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

end Cert.KernelIdeal.Run

end
-- ==== Proof.Run.Record0.lean ====
/- The first call as a segment of the program. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record1.lean ====
/- The second call as a segment of the program. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    refine (hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record2.lean ====
/- The third call as a segment of the program. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Frame.lean ====
/- The whole program: its segments in order, and its run. -/
module

public import proofs.«01_k».proof.Proof.Run.Record0
public import proofs.«01_k».proof.Proof.Run.Record1
public import proofs.«01_k».proof.Proof.Run.Record2

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run, at any `F`: at the compiled mesh, from any memory with zero counters, every weakly fair execution of @main on
    the TensorCores terminates, nothing faulting, and every final state has every unscoped buffer at what the fold through @main
    computes (`W5`) and every semaphore counter of the machine at zero: the kit's launch over the segments, the last thread
    state read against the final state (`pointsTo_read_all`); the kit shows every counter at zero except the TensorCores'
    unscoped ones, of which there are none. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: `Cert.quiescent_KernelIdeal`'s statement (Defs.lean) at any `F`: the run, each argument read by `W5_<arg>`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩, h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.KernelIdeal.Run

end
-- ==== Proof.Run.BitsFrame.lean ====
/- The kernel as printed and its idealization are the same text (no operation is rewritten), so the run of the one, which is
   proved at every reading of floats, is a run of the other. -/
module

public import proofs.«01_k».proof.Defs
public import proofs.«01_k».proof.Proof.Gen.Kernel
public import proofs.«01_k».proof.Proof.Gen.KernelIdeal
public import proofs.«01_k».proof.Proof.Run.Frame
public import Idealize.ShloMosaic.Lib.Exec

@[expose] public section

noncomputable section

namespace Cert.Proof

open Idealize.ShloMosaic Idealize.SL.Sem

/-- The frame of the idealized program's text, read at bits. -/
def QuiescentBits [Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem quiescentBits : QuiescentBits := fun m ρ _ => Cert.KernelIdeal.Run.frame (F := Bits) m ρ

/-- The two texts differ in names alone: the statements are equal by definition. -/
theorem quiescentBits_eq : QuiescentBits = Cert.quiescent_Kernel (hKernel := Cert.Kernel.Gen.facts) := by
  sl_kernel_rfl

theorem frame_bits : Cert.quiescent_Kernel (hKernel := Cert.Kernel.Gen.facts) :=
  quiescentBits_eq ▸ quiescentBits

end Cert.Proof

end
-- ==== Proof.Value.Scalar.lean ====
/- The scalar functions of the computation over the extended reals, and arrays read at natural coordinates. -/
module

public import Idealize.ShloMosaic.Lib.Pipeline.Value
public import Idealize.ShloMosaic.Lib.ValueIdx
public import Idealize.ShloMosaic.Lib.IdealHost
public import Idealize.ShloMosaic.Lib.MatmulPlain

@[expose] public section

noncomputable section

namespace Cert.Value

open Idealize.ShloMosaic Idealize.ShloMosaic.ValueIdx
open scoped BigOperators

/-! ## Arrays at natural coordinates -/

section At
variable {α : Type} [Inhabited α]

/-- A matrix read at two naturals; anything outside it. -/
def at2 {A B : ℕ} (X : (⟨2, ![A, B]⟩ : Shape).Idx → α) (a b : ℕ) : α :=
  if h : a < A ∧ b < B then X (ix2 ⟨a, h.1⟩ ⟨b, h.2⟩) else default

theorem at2_of_lt {A B : ℕ} (X : (⟨2, ![A, B]⟩ : Shape).Idx → α) {a b : ℕ} (ha : a < A) (hb : b < B) :
    at2 X a b = X (ix2 ⟨a, ha⟩ ⟨b, hb⟩) := dif_pos ⟨ha, hb⟩

/-- An element is the matrix at its two coordinates. -/
theorem eq_at2 {A B : ℕ} (X : (⟨2, ![A, B]⟩ : Shape).Idx → α) (i : (⟨2, ![A, B]⟩ : Shape).Idx) {a b : ℕ}
    (ha : (i 0).val = a) (hb : (i 1).val = b) : X i = at2 X a b := by
  subst ha; subst hb
  rw [at2_of_lt X (i 0).isLt (i 1).isLt]
  exact congrArg X (eq_ix2 i)

/-- A function of two naturals as a matrix. -/
def mk2 (A B : ℕ) (f : ℕ → ℕ → α) : (⟨2, ![A, B]⟩ : Shape).Idx → α := fun i => f (i 0).val (i 1).val

theorem at2_mk2 {A B : ℕ} (f : ℕ → ℕ → α) {a b : ℕ} (ha : a < A) (hb : b < B) : at2 (mk2 A B f) a b = f a b :=
  at2_of_lt _ ha hb

end At

/-! ## Sums over blocks -/

/-- A sum over `n` blocks of `m` is the sum over all `n * m` positions. -/
theorem sum_blocks {M : Type*} [AddCommMonoid M] (n m : ℕ) (f : ℕ → M) :
    ∑ s ∈ Finset.range n, ∑ r ∈ Finset.range m, f (m * s + r) = ∑ k ∈ Finset.range (m * n), f k := by
  induction n with
  | zero => simp
  | succ n ih => rw [Finset.sum_range_succ, ih, Nat.mul_succ, Finset.sum_range_add]

/-! ## The scalar functions -/

/-- The rectified sigmoid before clipping: `1.2 · σ(v) − 0.1` with the two stored constants. -/
def tt (v : EReal) : EReal := Ideal.logistic v * Ideal.ofBits .f32 0x3F99999A#32 + Ideal.ofBits .f32 0xBDCCCCCD#32
/-- The rectified sigmoid. -/
def hh (v : EReal) : EReal := min (Ideal.ofBits .f32 0x3F800000#32) (max (Ideal.ofBits .f32 0x00000000#32) (tt v))
/-- The integer weight plus the rounding variable. -/
def qs (n : BitVec 8) (v : EReal) : EReal := FloatOps.sitofp (F := Ideal) .f32 n + hh v
/-- The clipped integer weight. -/
def qq (n : BitVec 8) (v : EReal) : EReal := min (Ideal.ofBits .f32 0x40E00000#32) (max (Ideal.ofBits .f32 0xC1000000#32) (qs n v))
/-- The quantisation residual. -/
def dd (w : EReal) (n : BitVec 8) (s v : EReal) : EReal := w - s * qq n v
/-- `2h − 1`. -/
def uu (v : EReal) : EReal := Ideal.ofBits .f32 0x40000000#32 * hh v - Ideal.ofBits .f32 0x3F800000#32
/-- One element's share of the regulariser, `1 − u⁸` by three squarings. -/
def rg (v : EReal) : EReal :=
  Ideal.ofBits .f32 0x3F800000#32
    - ((uu v * uu v) * (uu v * uu v)) * ((uu v * uu v) * (uu v * uu v))
/-- The regulariser's derivative in `v` before the sigmoid's own: `−2 · weight · β · u⁷`, the power by squarings. -/
def du (v : EReal) : EReal :=
  Ideal.ofBits .f32 0xBA638E39#32 * ((((uu v * uu v) * (uu v * uu v)) * (uu v * uu v)) * uu v)
/-- One where the unclipped integer weight is at most 7, else zero. -/
def mk (n : BitVec 8) (v : EReal) : EReal :=
  Scalar.select (Ideal.cmp .ole (qs n v) (Ideal.ofBits .f32 0x40E00000#32)) (Ideal.ofBits .f32 0x3F800000#32) (Ideal.ofBits .f32 0x00000000#32)
/-- The rectified sigmoid's derivative. -/
def dh (v : EReal) : EReal :=
  Scalar.select (Ideal.cmp .ogt (tt v) (Ideal.ofBits .f32 0x00000000#32) &&& Ideal.cmp .olt (tt v) (Ideal.ofBits .f32 0x3F800000#32))
    ((Ideal.ofBits .f32 0x3F99999A#32 * Ideal.logistic v) * (Ideal.ofBits .f32 0x3F800000#32 - Ideal.logistic v)) (Ideal.ofBits .f32 0x00000000#32)
/-- The gradient of one rounding variable from the accumulated product `g`. -/
def gg (n : BitVec 8) (s v g : EReal) : EReal :=
  ((Ideal.ofBits .f32 0xB9000000#32 * (g * s)) * mk n v + du v) * dh v

end Cert.Value
-- ==== Proof.Value.Payload0.lean ====
/- The payloads of the preparation call, read at an element. -/
module

public import proofs.«01_k».proof.Proof.Value.Scalar
public import proofs.«01_k».proof.Proof.Gen.KernelIdeal.Skeleton

@[expose] public section

noncomputable section

namespace Cert.KernelIdeal.Value

open Idealize.ShloMosaic Idealize.ShloMosaic.ValueIdx Cert.Value
open Cert.KernelIdeal Cert.KernelIdeal.Gen
open scoped BigOperators

/-- The rectified sigmoid, elementwise. -/
theorem k0_pay3_apply (x : Vec Ideal S512x1024 .f32) (i : S512x1024.Idx) : k0_pay3 x i = hh (x i) := rfl

/-- The residual block, elementwise: row `r` uses scale row `r / 64`. -/
theorem k0_pay4_apply (v : Vec Ideal S512x1024 .f32) (n : Vec Ideal S512x1024 .i8) (s : Vec Ideal S8x1024 .f32)
    (w : Vec Ideal S512x1024 .f32) (i : S512x1024.Idx) :
    k0_pay4 v n s w i = dd (w i) (n i) (at2 (A := 8) (B := 1024) (α := EReal) s ((i 0).val / 64) (i 1).val) (v i) := by
  have h0 : (i 0).val < 512 := (i 0).isLt
  have h1 : (i 1).val < 1024 := (i 1).isLt
  have hs : shapeCast S512x1024 (broadcastTo S8x64x1024 (shapeCast S8x1x1024
      (shapeCast S8x1x1024 s shapeCasts_S8x1024_S8x1x1024) shapeCasts_S8x1x1024_S8x1x1024)
      broadcasts_S8x1x1024_S8x64x1024) shapeCasts_S8x64x1024_S512x1024 i
      = at2 (A := 8) (B := 1024) (α := EReal) s ((i 0).val / 64) (i 1).val := by
    rw [shapeCast_self, at2_of_lt _ (show (i 0).val / 64 < 8 by omega) h1]
    rw [shapeCast_apply _ _ i (ix3 (n0 := 8) (n1 := 64) (n2 := 1024) ⟨(i 0).val / 64, by omega⟩ ⟨(i 0).val % 64, by omega⟩ ⟨(i 1).val, h1⟩)
      (by rw [Shape.rowMajor_val_three, Shape.rowMajor_val_two]; show ((i 0).val / 64 * 64 + (i 0).val % 64) * 1024 + (i 1).val = (i 0).val * 1024 + (i 1).val; omega)]
    rw [broadcastTo_apply _ _ _ (ix3 (n0 := 8) (n1 := 1) (n2 := 1024) ⟨(i 0).val / 64, by omega⟩ ⟨0, by omega⟩ ⟨(i 1).val, h1⟩)
      (fun a => by match a with | ⟨0, _⟩ => rfl | ⟨1, _⟩ => rfl | ⟨2, _⟩ => rfl)]
    exact shapeCast_apply _ _ _ (ix2 (n0 := 8) (n1 := 1024) ⟨(i 0).val / 64, by omega⟩ ⟨(i 1).val, h1⟩)
      (by rw [Shape.rowMajor_val_three, Shape.rowMajor_val_two]; show (i 0).val / 64 * 1024 + (i 1).val = ((i 0).val / 64 * 1 + 0) * 1024 + (i 1).val; omega)
  rw [← hs]
  rfl

/-- The column sums of the regulariser shares. -/
theorem k0_pay5_apply (v : Vec Ideal S512x1024 .f32) (j : S1024.Idx) :
    k0_pay5 v j = ∑ r ∈ Finset.range 512, rg (at2 (A := 512) (B := 1024) (α := EReal) v r (j 0).val) := by
  show Ideal.reduceAdd reduces_S512x1024_S1024 _ j = _
  unfold Ideal.reduceAdd
  rw [Shape.Reduces.sum_filter_drop_single, Finset.sum_range]
  refine Finset.sum_congr rfl fun r _ => ?_
  rw [← eq_at2 (A := 512) (B := 1024) (α := EReal) v (reduces_S512x1024_S1024.lift j r) (by rw [Shape.Reduces.lift_val]; rfl) (by rw [Shape.Reduces.lift_val]; rfl)]
  rfl

/-- The zero row. -/
theorem k0_pay1_apply (j : S1x1024.Idx) : (k0_pay1 : FVec Ideal S1x1024 .f32) j = 0 := Ideal.ofBits_zero_f32

/-- A regulariser share added to the row. -/
theorem k0_pay2_apply (p : FVec Ideal S1024 .f32) (acc : Vec Ideal S1x1024 .f32) (j : S1x1024.Idx) :
    k0_pay2 p acc j = acc j + Ideal.ofBits .f32 0x38638E39#32 * p (ix1 (n := 1024) (j 1)) := by
  have h0 : (j 0).val < 1 := (j 0).isLt
  have e : shapeCast S1x1024 p shapeCasts_S1024_S1x1024 j = p (ix1 (n := 1024) (j 1)) :=
    shapeCast_apply _ _ _ _ (by rw [Shape.rowMajor_val_one, Shape.rowMajor_val_two]; show (j 1).val = (j 0).val * 1024 + (j 1).val; omega)
  rw [← e]
  show (shapeCast S1x1024 acc shapeCasts_S1x1024_S1x1024) j + _ = _
  rw [shapeCast_self]
  rfl

end Cert.KernelIdeal.Value
-- ==== Proof.Value.Cases0.lean ====
module

public import proofs.«01_k».proof.Proof.Run.Region0
public import Idealize.ShloMosaic.Lib.Pipeline.Value

/-!
# What one grid point of the preparation call leaves

Case by case, the two output blocks of `cc0_prep` as the printed payloads of the blocks it read:
the quantisation residual `d`, and the running regulariser row.
-/

@[expose] public section

noncomputable section

namespace Cert.KernelIdeal.Value

open Idealize.ShloMosaic Idealize.SL.Sem
open Cert.KernelIdeal Cert.KernelIdeal.Gen Cert.KernelIdeal.Run

variable {F : FTy → Type} [FloatOps F]

theorem hz : (![0, 0] : Fin 2 → Nat) = fun _ => 0 := funext fun a => by fin_cases a <;> rfl

/-- A first row block leaves the residual block. -/
theorem out0_A_4_eq (c : Dev nD) (i : grid0.Coords) (a0 : Memref sig .tc .vmem S512x1024 .f32) (h0 : a0.IsWhole) (a1 : Memref sig .tc .vmem S512x1024 .i8) (h1 : a1.IsWhole) (a2 : Memref sig .tc .vmem S8x1024 .f32) (h2 : a2.IsWhole) (a3 : Memref sig .tc .vmem S512x1024 .f32) (h3 : a3.IsWhole) (a4 : Memref sig .tc .vmem S512x1024 .bf16) (h4 : a4.IsWhole) (a5 : Memref sig .tc .vmem S1x1024 .f32) (h5 : a5.IsWhole) (hc : cond0_0 i)
    (x0 : Vec F S512x1024 .f32) (x1 : Vec F S512x1024 .i8) (x2 : Vec F S8x1024 .f32) (x3 : Vec F S512x1024 .f32) :
    out0_A_4 c i a0 h0 a1 h1 a2 h2 a3 h3 a4 h4 a5 h5 hc x0 x1 x2 x3 = k0_pay4 x3 x1 x2 x0 := by
  unfold out0_A_4
  rw [View.read_writes_eq_canon _ _ _ (cover0_A_4 c i a0 h0 a1 h1 a2 h2 a3 h3 a4 h4 a5 h5 hc x0 x1 x2 x3)]
  unfold kernelRun0_A
  dsimp only
  sl_unfold_words
  rw [View.canon_unit_zero hz]
  simp only [View.readAt_eq_ld, h0.read_unread, h1.read_unread, h2.read_unread, h3.read_unread,
    View.ld_unit_zero (S := S512x1024) hz, View.ld_unit_zero (S := S8x1024) hz]

/-- A first row block leaves its own share of the regulariser added to zero. -/
theorem out0_A_5_eq (c : Dev nD) (i : grid0.Coords) (a0 : Memref sig .tc .vmem S512x1024 .f32) (h0 : a0.IsWhole) (a1 : Memref sig .tc .vmem S512x1024 .i8) (h1 : a1.IsWhole) (a2 : Memref sig .tc .vmem S8x1024 .f32) (h2 : a2.IsWhole) (a3 : Memref sig .tc .vmem S512x1024 .f32) (h3 : a3.IsWhole) (a4 : Memref sig .tc .vmem S512x1024 .bf16) (h4 : a4.IsWhole) (a5 : Memref sig .tc .vmem S1x1024 .f32) (h5 : a5.IsWhole) (hc : cond0_0 i)
    (x0 : Vec F S512x1024 .f32) (x1 : Vec F S512x1024 .i8) (x2 : Vec F S8x1024 .f32) (x3 : Vec F S512x1024 .f32) :
    out0_A_5 c i a0 h0 a1 h1 a2 h2 a3 h3 a4 h4 a5 h5 hc x0 x1 x2 x3 = k0_pay2 (k0_pay5 x3) k0_pay1 := by
  unfold out0_A_5
  rw [View.read_writes_eq_canon _ _ _ (cover0_A_5 c i a0 h0 a1 h1 a2 h2 a3 h3 a4 h4 a5 h5 hc x0 x1 x2 x3)]
  unfold kernelRun0_A
  dsimp only
  sl_unfold_words
  rw [View.canon_cons_unit_zero (S := S1x1024) hz, View.readCov_unit_zero (S := S1x1024) _ hz]
  simp only [View.readAt_eq_ld, h3.read_unread, View.ld_unit_zero (S := S512x1024) hz]

/-- A later row block leaves the residual block. -/
theorem out0_B_4_eq (c : Dev nD) (i : grid0.Coords) (a0 : Memref sig .tc .vmem S512x1024 .f32) (h0 : a0.IsWhole) (a1 : Memref sig .tc .vmem S512x1024 .i8) (h1 : a1.IsWhole) (a2 : Memref sig .tc .vmem S8x1024 .f32) (h2 : a2.IsWhole) (a3 : Memref sig .tc .vmem S512x1024 .f32) (h3 : a3.IsWhole) (a4 : Memref sig .tc .vmem S512x1024 .bf16) (h4 : a4.IsWhole) (a5 : Memref sig .tc .vmem S1x1024 .f32) (h5 : a5.IsWhole) (hc : ¬cond0_0 i)
    (x0 : Vec F S512x1024 .f32) (x1 : Vec F S512x1024 .i8) (x2 : Vec F S8x1024 .f32) (x3 : Vec F S512x1024 .f32) (xo : Vec F S1x1024 .f32) :
    out0_B_4 c i a0 h0 a1 h1 a2 h2 a3 h3 a4 h4 a5 h5 hc x0 x1 x2 x3 xo = k0_pay4 x3 x1 x2 x0 := by
  unfold out0_B_4
  rw [View.read_writes_eq_canon _ _ _ (cover0_B_4 c i a0 h0 a1 h1 a2 h2 a3 h3 a4 h4 a5 h5 hc x0 x1 x2 x3 xo)]
  unfold kernelRun0_B
  dsimp only
  sl_unfold_words
  rw [View.canon_unit_zero hz]
  simp only [View.readAt_eq_ld, h0.read_unread, h1.read_unread, h2.read_unread, h3.read_unread,
    View.ld_unit_zero (S := S512x1024) hz, View.ld_unit_zero (S := S8x1024) hz]

/-- A later row block adds its share of the regulariser to what was there. -/
theorem out0_B_5_eq (c : Dev nD) (i : grid0.Coords) (a0 : Memref sig .tc .vmem S512x1024 .f32) (h0 : a0.IsWhole) (a1 : Memref sig .tc .vmem S512x1024 .i8) (h1 : a1.IsWhole) (a2 : Memref sig .tc .vmem S8x1024 .f32) (h2 : a2.IsWhole) (a3 : Memref sig .tc .vmem S512x1024 .f32) (h3 : a3.IsWhole) (a4 : Memref sig .tc .vmem S512x1024 .bf16) (h4 : a4.IsWhole) (a5 : Memref sig .tc .vmem S1x1024 .f32) (h5 : a5.IsWhole) (hc : ¬cond0_0 i)
    (x0 : Vec F S512x1024 .f32) (x1 : Vec F S512x1024 .i8) (x2 : Vec F S8x1024 .f32) (x3 : Vec F S512x1024 .f32) (xo : Vec F S1x1024 .f32) :
    out0_B_5 c i a0 h0 a1 h1 a2 h2 a3 h3 a4 h4 a5 h5 hc x0 x1 x2 x3 xo = k0_pay2 (k0_pay5 x3) xo := by
  unfold out0_B_5
  rw [View.read_writes_eq_canon _ _ _ (cover0_B_5 c i a0 h0 a1 h1 a2 h2 a3 h3 a4 h4 a5 h5 hc x0 x1 x2 x3 xo)]
  unfold kernelRun0_B
  dsimp only
  sl_unfold_words
  rw [View.canon_unit_zero hz]
  simp only [View.readAt_eq_ld, h3.read_unread, h5.read_unread, View.ld_unit_zero (S := S512x1024) hz,
    View.ld_unit_zero (S := S1x1024) hz]

end Cert.KernelIdeal.Value
-- ==== Proof.Value.Prep.lean ====
/- What the preparation call leaves in its two result arrays, over the extended reals. -/
module

public import proofs.«01_k».proof.Proof.Value.Payload0
public import proofs.«01_k».proof.Proof.Value.Cases0

@[expose] public section

noncomputable section

namespace Cert.KernelIdeal.Value

open Idealize.ShloMosaic Idealize.ShloMosaic.TcCoe Idealize.ShloMosaic.ValueIdx Cert.Value Idealize.SL.Sem
open Cert.KernelIdeal Cert.KernelIdeal.Gen Cert.KernelIdeal.Run
open Idealize.ShloMosaic.Pipeline (Dat)
open scoped BigOperators

variable (V : (c : Dev nD) → (b : Ref sig .tc) → Buf (Elt Ideal) ((c : Thread nD τ).loc b))

/-! ## The arrays the call reads, at natural coordinates -/

/-- The weights. -/
def wA (c : Dev nD) (a b : ℕ) : EReal := at2 (A := 18432) (B := 7168) (α := EReal) (V c main_arg1) a b
/-- The integer weights. -/
def nA (c : Dev nD) (a b : ℕ) : BitVec 8 := at2 (A := 18432) (B := 7168) (α := BitVec 8) (V c main_arg2) a b
/-- The scales, one row per group of 64. -/
def sA (c : Dev nD) (a b : ℕ) : EReal := at2 (A := 288) (B := 7168) (α := EReal) (V c main_arg3) a b
/-- The rounding variables. -/
def vA (c : Dev nD) (a b : ℕ) : EReal := at2 (A := 18432) (B := 7168) (α := EReal) (V c main_arg4) a b

/-- The block every window is at, at each grid point. -/
theorem idx0 : ∀ t : Fin cfg0.N,
    (win0_0.index t (0 : Fin 2) = t.val % 36 ∧ win0_0.index t (1 : Fin 2) = t.val / 36)
    ∧ (win0_1.index t (0 : Fin 2) = t.val % 36 ∧ win0_1.index t (1 : Fin 2) = t.val / 36)
    ∧ (win0_2.index t (0 : Fin 2) = t.val % 36 ∧ win0_2.index t (1 : Fin 2) = t.val / 36)
    ∧ (win0_3.index t (0 : Fin 2) = t.val % 36 ∧ win0_3.index t (1 : Fin 2) = t.val / 36)
    ∧ (win0_4.index t (0 : Fin 2) = t.val % 36 ∧ win0_4.index t (1 : Fin 2) = t.val / 36)
    ∧ (win0_5.index t (0 : Fin 2) = 0 ∧ win0_5.index t (1 : Fin 2) = t.val / 36) :=
  (by decide +kernel : ∀ t : Fin grid0.N, _)

theorem iblk0_0 (c : Dev nD) (t : Fin cfg0.N) (y : S512x1024.Idx) :
    (iblk0 V c 0 t : Vec Ideal S512x1024 .f32) y = wA V c (512 * (t.val % 36) + (y 0).val) (1024 * (t.val / 36) + (y 1).val) := by
  obtain ⟨h, -⟩ := idx0 t
  refine (?_ : _ = V c main_arg1 (((cfg0.win 0).blk t).view.emb y)).trans (eq_at2 (A := 18432) (B := 7168) (α := EReal) _ _ ?_ ?_)
  · rfl
  · show win0_0.index t (0 : Fin 2) * 512 + 1 * (y 0).val = _; rw [h.1]; omega
  · show win0_0.index t (1 : Fin 2) * 1024 + 1 * (y 1).val = _; rw [h.2]; omega

theorem iblk0_1 (c : Dev nD) (t : Fin cfg0.N) (y : S512x1024.Idx) :
    (iblk0 V c 1 t : Vec Ideal S512x1024 .i8) y = nA V c (512 * (t.val % 36) + (y 0).val) (1024 * (t.val / 36) + (y 1).val) := by
  obtain ⟨-, h, -⟩ := idx0 t
  refine (?_ : _ = V c main_arg2 (((cfg0.win 1).blk t).view.emb y)).trans (eq_at2 (A := 18432) (B := 7168) (α := BitVec 8) _ _ ?_ ?_)
  · rfl
  · show win0_1.index t (0 : Fin 2) * 512 + 1 * (y 0).val = _; rw [h.1]; omega
  · show win0_1.index t (1 : Fin 2) * 1024 + 1 * (y 1).val = _; rw [h.2]; omega

theorem iblk0_2 (c : Dev nD) (t : Fin cfg0.N) (y : S8x1024.Idx) :
    (iblk0 V c 2 t : Vec Ideal S8x1024 .f32) y = sA V c (8 * (t.val % 36) + (y 0).val) (1024 * (t.val / 36) + (y 1).val) := by
  obtain ⟨-, -, h, -⟩ := idx0 t
  refine (?_ : _ = V c main_arg3 (((cfg0.win 2).blk t).view.emb y)).trans (eq_at2 (A := 288) (B := 7168) (α := EReal) _ _ ?_ ?_)
  · rfl
  · show win0_2.index t (0 : Fin 2) * 8 + 1 * (y 0).val = _; rw [h.1]; omega
  · show win0_2.index t (1 : Fin 2) * 1024 + 1 * (y 1).val = _; rw [h.2]; omega

theorem iblk0_3 (c : Dev nD) (t : Fin cfg0.N) (y : S512x1024.Idx) :
    (iblk0 V c 3 t : Vec Ideal S512x1024 .f32) y = vA V c (512 * (t.val % 36) + (y 0).val) (1024 * (t.val / 36) + (y 1).val) := by
  obtain ⟨-, -, -, h, -⟩ := idx0 t
  refine (?_ : _ = V c main_arg4 (((cfg0.win 3).blk t).view.emb y)).trans (eq_at2 (A := 18432) (B := 7168) (α := EReal) _ _ ?_ ?_)
  · rfl
  · show win0_3.index t (0 : Fin 2) * 512 + 1 * (y 0).val = _; rw [h.1]; omega
  · show win0_3.index t (1 : Fin 2) * 1024 + 1 * (y 1).val = _; rw [h.2]; omega

/-! ## The residual -/

/-- The quantisation residual at row `a`, column `b`. -/
def dA (c : Dev nD) (a b : ℕ) : EReal := dd (wA V c a b) (nA V c a b) (sA V c (a / 64) b) (vA V c a b)

/-- Every point leaves the residual's block. -/
theorem outs0_4 (c : Dev nD) (t : Fin cfg0.N) :
    (outsAt0 V c t.val t.isLt).1 = k0_pay4 (iblk0 V c 3 t : Vec Ideal S512x1024 .f32) (iblk0 V c 1 t : Vec Ideal S512x1024 .i8)
      (iblk0 V c 2 t : Vec Ideal S8x1024 .f32) (iblk0 V c 0 t : Vec Ideal S512x1024 .f32) := by
  by_cases h0 : t.val % 36 = 0
  · rw [outsAt0_A V c t h0]; dsimp only; rw [out0_A_4_eq]
  · rw [outsAt0_B V c t h0]; dsimp only; rw [out0_B_4_eq]

theorem outs0_4_apply (c : Dev nD) (t : Fin cfg0.N) (y : S512x1024.Idx) :
    (outsAt0 V c t.val t.isLt).1 y = dA V c (512 * (t.val % 36) + (y 0).val) (1024 * (t.val / 36) + (y 1).val) := by
  have hy0 : (y 0).val < 512 := (y 0).isLt
  have hy1 : (y 1).val < 1024 := (y 1).isLt
  rw [outs0_4, k0_pay4_apply, iblk0_0, iblk0_1, iblk0_3, at2_of_lt _ (by omega) hy1, iblk0_2]
  show dd _ _ (sA V c (8 * (t.val % 36) + (y 0).val / 64) (1024 * (t.val / 36) + (y 1).val)) _ = _
  unfold dA
  rw [show (512 * (t.val % 36) + (y 0).val) / 64 = 8 * (t.val % 36) + (y 0).val / 64 by omega]

theorem mem_blk0_4 (t : Fin cfg0.N) (i : S18432x7168.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v1_0).slice (win0_4.rect t)).set ↔ _
  rw [View.set_slice_whole, Rect.mem_set_unit]
  exact Iff.rfl

/-- The first result of the preparation call is the residual. -/
theorem final0_4 (c : Dev nD) : (dat0 V c).arrAt 4 cfg0.N = mk2 18432 7168 (dA V c) := by
  refine (dat0 V c).arrAt_eq_of_cover 4 _ (fun t _ => ?_) (fun i => ?_)
  · show (cfg0.win 4).cut (grid0.coords t) ((dat0 V c).after 4 t) = _
    rw [after0_4]
    obtain ⟨-, -, -, -, h, -⟩ := idx0 t
    funext y
    refine (outs0_4_apply V c t y).trans ?_
    show _ = dA V c (win0_4.index t (0 : Fin 2) * 512 + 1 * (y 0).val) (win0_4.index t (1 : Fin 2) * 1024 + 1 * (y 1).val)
    rw [h.1, h.2]
    congr 1 <;> omega
  · have hi0 : (i 0).val < 18432 := (i 0).isLt
    have hi1 : (i 1).val < 7168 := (i 1).isLt
    have hN : cfg0.N = 252 := N_0
    let t : Fin cfg0.N := ⟨36 * ((i 1).val / 1024) + (i 0).val / 512, by omega⟩
    obtain ⟨-, -, -, -, h, -⟩ := idx0 t
    have e0 : t.val % 36 = (i 0).val / 512 := by show (36 * ((i 1).val / 1024) + (i 0).val / 512) % 36 = _; omega
    have e1 : t.val / 36 = (i 1).val / 1024 := by show (36 * ((i 1).val / 1024) + (i 0).val / 512) / 36 = _; omega
    refine ⟨t, flush0_4 t, (mem_blk0_4 t i).2 fun a => ?_⟩
    match a with
    | ⟨0, _⟩ => show win0_4.index t (0 : Fin 2) * 512 ≤ (i 0).val ∧ (i 0).val < win0_4.index t (0 : Fin 2) * 512 + 512; rw [h.1, e0]; omega
    | ⟨1, _⟩ => show win0_4.index t (1 : Fin 2) * 1024 ≤ (i 1).val ∧ (i 1).val < win0_4.index t (1 : Fin 2) * 1024 + 1024; rw [h.2, e1]; omega

/-! ## The regulariser -/

/-- The regulariser share of row block `k` at column `b`. -/
def rB (c : Dev nD) (k b : ℕ) : EReal :=
  Ideal.ofBits .f32 0x38638E39#32 * ∑ r ∈ Finset.range 512, rg (vA V c (512 * k + r) b)

theorem share0 (c : Dev nD) (t : Fin cfg0.N) (j : Fin 1024) :
    Ideal.ofBits .f32 0x38638E39#32 * k0_pay5 (iblk0 V c 3 t : Vec Ideal S512x1024 .f32) (ix1 (n := 1024) j)
      = rB V c (t.val % 36) (1024 * (t.val / 36) + j.val) := by
  rw [k0_pay5_apply]
  unfold rB
  refine congrArg _ (Finset.sum_congr rfl fun r hr => ?_)
  have hr := Finset.mem_range.1 hr
  rw [at2_of_lt _ hr j.isLt, iblk0_3]

/-- A first row block's row. -/
theorem outs0_5_A (c : Dev nD) (t : Fin cfg0.N) (h0 : t.val % 36 = 0) (y : S1x1024.Idx) :
    (outsAt0 V c t.val t.isLt).2 y = rB V c 0 (1024 * (t.val / 36) + (y 1).val) := by
  rw [outsAt0_A V c t h0]
  dsimp only
  rw [out0_A_5_eq, k0_pay2_apply, k0_pay1_apply, zero_add]
  refine (share0 V c t (y 1)).trans ?_
  rw [h0]

/-- A later row block adds its share to the row. -/
theorem outs0_5_B (c : Dev nD) (n : ℕ) (h : n + 1 < cfg0.N) (h0 : ¬(n + 1) % 36 = 0) (y : S1x1024.Idx) :
    (outsAt0 V c (n + 1) h).2 y = (outsAt0 V c n (Nat.lt_of_succ_lt h)).2 y + rB V c ((n + 1) % 36) (1024 * ((n + 1) / 36) + (y 1).val) := by
  refine (congrFun (congrArg Prod.snd (outsAt0_B V c ⟨n + 1, h⟩ h0)) y).trans ?_
  dsimp only
  rw [out0_B_5_eq, k0_pay2_apply]
  exact congrArg _ (share0 V c ⟨n + 1, h⟩ (y 1))

/-- The running row after each point: the shares of the row blocks so far. -/
theorem outs0_5 (c : Dev nD) : ∀ (n : ℕ) (h : n < cfg0.N) (y : S1x1024.Idx),
    (outsAt0 V c n h).2 y = ∑ k ∈ Finset.range (n % 36 + 1), rB V c k (1024 * (n / 36) + (y 1).val) := by
  intro n
  induction n with
  | zero => intro h y; exact (outs0_5_A V c ⟨0, h⟩ rfl y).trans (Finset.sum_range_one fun k => rB V c k (1024 * (0 / 36) + (y 1).val)).symm
  | succ n ih =>
    intro h y
    by_cases h0 : (n + 1) % 36 = 0
    · refine (outs0_5_A V c ⟨n + 1, h⟩ h0 y).trans ?_
      rw [h0]
      exact (Finset.sum_range_one fun k => rB V c k (1024 * ((n + 1) / 36) + (y 1).val)).symm
    · rw [outs0_5_B V c n h h0, ih, show (n + 1) % 36 = n % 36 + 1 by omega, show (n + 1) / 36 = n / 36 by omega]
      exact (Finset.sum_range_succ _ _).symm

/-- The regulariser of column `b`. -/
def rA (c : Dev nD) (b : ℕ) : EReal := ∑ k ∈ Finset.range 36, rB V c k b

theorem mem_blk0_5 (t : Fin cfg0.N) (i : S1x7168.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v1_1).slice (win0_5.rect t)).set ↔ _
  rw [View.set_slice_whole, Rect.mem_set_unit]
  exact Iff.rfl

/-- The second result of the preparation call is the regulariser row. -/
theorem final0_5 (c : Dev nD) : (dat0 V c).arrAt 5 cfg0.N = mk2 1 7168 fun _ b => rA V c b := by
  refine (dat0 V c).arrAt_eq_of_cover 5 _ (fun t hf => ?_) (fun i => ?_)
  · show (cfg0.win 5).cut (grid0.coords t) ((dat0 V c).after 5 t) = _
    rw [after0_5]
    have hm : t.val % 36 = 35 := (flush0_5 t).mp hf
    obtain ⟨-, -, -, -, -, h⟩ := idx0 t
    funext y
    refine (outs0_5 V c t.val t.isLt y).trans ?_
    show _ = rA V c (win0_5.index t (1 : Fin 2) * 1024 + 1 * (y 1).val)
    rw [h.2, hm]
    unfold rA
    rw [show t.val / 36 * 1024 + 1 * (y 1).val = 1024 * (t.val / 36) + (y 1).val by omega]
  · have hi0 : (i 0).val < 1 := (i 0).isLt
    have hi1 : (i 1).val < 7168 := (i 1).isLt
    have hN : cfg0.N = 252 := N_0
    let t : Fin cfg0.N := ⟨36 * ((i 1).val / 1024) + 35, by omega⟩
    obtain ⟨-, -, -, -, -, h⟩ := idx0 t
    have e1 : t.val / 36 = (i 1).val / 1024 := by show (36 * ((i 1).val / 1024) + 35) / 36 = _; omega
    refine ⟨t, (flush0_5 t).mpr (by show (36 * ((i 1).val / 1024) + 35) % 36 = 35; omega), (mem_blk0_5 t i).2 fun a => ?_⟩
    match a with
    | ⟨0, _⟩ => show win0_5.index t (0 : Fin 2) * 1 ≤ (i 0).val ∧ (i 0).val < win0_5.index t (0 : Fin 2) * 1 + 1; rw [h.1]; omega
    | ⟨1, _⟩ => show win0_5.index t (1 : Fin 2) * 1024 ≤ (i 1).val ∧ (i 1).val < win0_5.index t (1 : Fin 2) * 1024 + 1024; rw [h.2, e1]; omega

end Cert.KernelIdeal.Value
-- ==== Proof.Value.Payload1.lean ====
/- The payloads of the forward call, read at an element. -/
module

public import proofs.«01_k».proof.Proof.Value.Scalar
public import proofs.«01_k».proof.Proof.Gen.KernelIdeal.Skeleton

@[expose] public section

noncomputable section

namespace Cert.KernelIdeal.Value

open Idealize.ShloMosaic Idealize.ShloMosaic.ValueIdx Cert.Value
open Cert.KernelIdeal Cert.KernelIdeal.Gen
open scoped BigOperators

/-- The zero block. -/
theorem k1_pay1_apply (j : S2048x1792.Idx) : (k1_pay1 : FVec Ideal S2048x1792 .f32) j = 0 := by
  unfold k1_pay1
  rw [shapeCast_self]
  exact Ideal.ofBits_zero_f32

/-- One block product added to the accumulator. -/
theorem k1_pay2_apply (acc : Vec Ideal S2048x1792 .f32) (x : Vec Ideal S2048x1024 .bf16) (d : Vec Ideal S1024x1792 .bf16)
    (j : S2048x1792.Idx) :
    k1_pay2 acc x d j = acc j + ∑ r ∈ Finset.range 1024,
      at2 (A := 2048) (B := 1024) (α := EReal) x (j 0).val r * at2 (A := 1024) (B := 1792) (α := EReal) d r (j 1).val := by
  have h0 : (j 0).val < 2048 := (j 0).isLt
  have h1 : (j 1).val < 1792 := (j 1).isLt
  unfold k1_pay2
  simp only [shapeCast_self]
  show acc j + FloatOps.matmul (F := Ideal) (DotDims.plain 2048 1024 1792) none x d _ j = _
  refine congrArg (acc j + ·) ?_
  rw [eq_ix2 j]
  refine (Ideal.matmul_plain_apply (φ₁ := .bf16) (φ₂ := .bf16) none x d _ (j 0) (j 1)).trans ?_
  rw [show (constant S2048x1792 .f32 0x00000000#32 : FVec Ideal S2048x1792 .f32) (ix2 (j 0) (j 1)) = 0 from Ideal.ofBits_zero_f32, zero_add, Finset.sum_range]
  refine Finset.sum_congr rfl fun k _ => ?_
  rw [at2_of_lt _ h0 k.isLt, at2_of_lt _ k.isLt h1]
  rfl

/-- The zero row. -/
theorem k1_pay3_apply (j : S1x1792.Idx) : (k1_pay3 : FVec Ideal S1x1792 .f32) j = 0 := Ideal.ofBits_zero_f32

/-- The error block is the accumulator. -/
theorem k1_pay4_apply (e : Vec Ideal S2048x1792 .f32) (j : S2048x1792.Idx) : k1_pay4 e j = e j := rfl

/-- One row block's mean-square share added to the row. -/
theorem k1_pay5_apply (e : Vec Ideal S2048x1792 .f32) (acc : Vec Ideal S1x1792 .f32) (j : S1x1792.Idx) :
    k1_pay5 e acc j = acc j + Ideal.ofBits .f32 0x38800000#32 * ∑ r ∈ Finset.range 2048,
      at2 (A := 2048) (B := 1792) (α := EReal) e r (j 1).val * at2 (A := 2048) (B := 1792) (α := EReal) e r (j 1).val := by
  have h0 : (j 0).val < 1 := (j 0).isLt
  have e' : ∀ p : FVec Ideal S1792 .f32, shapeCast S1x1792 p shapeCasts_S1792_S1x1792 j = p (ix1 (n := 1792) (j 1)) := fun p =>
    shapeCast_apply _ _ _ _ (by rw [Shape.rowMajor_val_one, Shape.rowMajor_val_two]; show (j 1).val = (j 0).val * 1792 + (j 1).val; omega)
  unfold k1_pay5
  simp only [shapeCast_self]
  show acc j + Ideal.ofBits .f32 0x38800000#32 * shapeCast S1x1792 _ shapeCasts_S1792_S1x1792 j = _
  rw [e']
  refine congrArg (fun z => acc j + Ideal.ofBits .f32 0x38800000#32 * z) ?_
  show Ideal.reduceAdd reduces_S2048x1792_S1792 _ _ = _
  unfold Ideal.reduceAdd
  rw [Shape.Reduces.sum_filter_drop_single, Finset.sum_range]
  refine Finset.sum_congr rfl fun r _ => ?_
  rw [← eq_at2 (A := 2048) (B := 1792) (α := EReal) e (reduces_S2048x1792_S1792.lift (ix1 (n := 1792) (j 1)) r) (by rw [Shape.Reduces.lift_val]; rfl) (by rw [Shape.Reduces.lift_val]; rfl)]
  rfl

end Cert.KernelIdeal.Value
-- ==== Proof.Value.Cases1.lean ====
module

public import proofs.«01_k».proof.Proof.Run.Region1
public import Idealize.ShloMosaic.Lib.Pipeline.Value

/-!
# What one grid point of the forward call leaves

Case by case, the accumulator, the error block and the running reconstruction row of `cc1_fwd` as
the printed payloads of the blocks it read.
-/

@[expose] public section

noncomputable section

namespace Cert.KernelIdeal.Value

open Idealize.ShloMosaic Idealize.SL.Sem
open Cert.KernelIdeal Cert.KernelIdeal.Gen Cert.KernelIdeal.Run

variable {F : FTy → Type} [FloatOps F]

theorem hz1 : (![0, 0] : Fin 2 → Nat) = fun _ => 0 := funext fun a => by fin_cases a <;> rfl

/-- A first block of the contraction starts the accumulator at its own product. -/
theorem sout1_A_0_eq (c : Dev nD) (i : grid1.Coords) (a0 : Memref sig .tc .vmem S2048x1024 .bf16) (h0 : a0.IsWhole) (a1 : Memref sig .tc .vmem S1024x1792 .bf16) (h1 : a1.IsWhole) (a2 : Memref sig .tc .vmem S2048x1792 .bf16) (h2 : a2.IsWhole) (a3 : Memref sig .tc .vmem S1x1792 .f32) (h3 : a3.IsWhole) (a4 : Memref sig .tc .vmem S2048x1792 .f32) (h4 : a4.IsWhole) (c0 : cond1_0 i) (c1 : ¬cond1_1 i)
    (x0 : Vec F S2048x1024 .bf16) (x1 : Vec F S1024x1792 .bf16) :
    sout1_A_0 c i a0 h0 a1 h1 a2 h2 a3 h3 a4 h4 c0 c1 x0 x1 = k1_pay2 k1_pay1 x0 x1 := by
  unfold sout1_A_0
  rw [View.read_writes_eq_canon _ _ _ (scover1_A_0 c i a0 h0 a1 h1 a2 h2 a3 h3 a4 h4 c0 c1 x0 x1)]
  unfold kernelRun1_A
  dsimp only
  sl_unfold_words
  rw [View.canon_cons_unit_zero (S := S2048x1792) hz1, View.readCov_unit_zero (S := S2048x1792) _ hz1]
  simp only [View.readAt_eq_ld, h0.read_unread, h1.read_unread, h3.read_unread, h4.read_unread, View.readCov_unit_zero (S := S2048x1792) _ hz1,
    View.ld_unit_zero (S := S2048x1792) hz1, View.ld_unit_zero (S := S2048x1024) hz1, View.ld_unit_zero (S := S1024x1792) hz1, View.ld_unit_zero (S := S1x1792) hz1]

/-- A later block (case B) adds its product to the accumulator. -/
theorem sout1_B_0_eq (c : Dev nD) (i : grid1.Coords) (a0 : Memref sig .tc .vmem S2048x1024 .bf16) (h0 : a0.IsWhole) (a1 : Memref sig .tc .vmem S1024x1792 .bf16) (h1 : a1.IsWhole) (a2 : Memref sig .tc .vmem S2048x1792 .bf16) (h2 : a2.IsWhole) (a3 : Memref sig .tc .vmem S1x1792 .f32) (h3 : a3.IsWhole) (a4 : Memref sig .tc .vmem S2048x1792 .f32) (h4 : a4.IsWhole) (c0 : ¬cond1_0 i) (c1 : ¬cond1_1 i)
    (x0 : Vec F S2048x1024 .bf16) (x1 : Vec F S1024x1792 .bf16) (xs : Vec F S2048x1792 .f32) :
    sout1_B_0 c i a0 h0 a1 h1 a2 h2 a3 h3 a4 h4 c0 c1 x0 x1 xs = k1_pay2 xs x0 x1 := by
  unfold sout1_B_0
  rw [View.read_writes_eq_canon _ _ _ (scover1_B_0 c i a0 h0 a1 h1 a2 h2 a3 h3 a4 h4 c0 c1 x0 x1 xs)]
  unfold kernelRun1_B
  dsimp only
  sl_unfold_words
  rw [View.canon_unit_zero hz1]
  simp only [View.readAt_eq_ld, h0.read_unread, h1.read_unread, h3.read_unread, h4.read_unread, View.readCov_unit_zero (S := S2048x1792) _ hz1,
    View.ld_unit_zero (S := S2048x1792) hz1, View.ld_unit_zero (S := S2048x1024) hz1, View.ld_unit_zero (S := S1024x1792) hz1, View.ld_unit_zero (S := S1x1792) hz1]

/-- A later block (case C) adds its product to the accumulator. -/
theorem sout1_C_0_eq (c : Dev nD) (i : grid1.Coords) (a0 : Memref sig .tc .vmem S2048x1024 .bf16) (h0 : a0.IsWhole) (a1 : Memref sig .tc .vmem S1024x1792 .bf16) (h1 : a1.IsWhole) (a2 : Memref sig .tc .vmem S2048x1792 .bf16) (h2 : a2.IsWhole) (a3 : Memref sig .tc .vmem S1x1792 .f32) (h3 : a3.IsWhole) (a4 : Memref sig .tc .vmem S2048x1792 .f32) (h4 : a4.IsWhole) (c0 : ¬cond1_0 i) (c1 : cond1_1 i) (c2 : cond1_2 i)
    (x0 : Vec F S2048x1024 .bf16) (x1 : Vec F S1024x1792 .bf16) (xs : Vec F S2048x1792 .f32) :
    sout1_C_0 c i a0 h0 a1 h1 a2 h2 a3 h3 a4 h4 c0 c1 c2 x0 x1 xs = k1_pay2 xs x0 x1 := by
  unfold sout1_C_0
  rw [View.read_writes_eq_canon _ _ _ (scover1_C_0 c i a0 h0 a1 h1 a2 h2 a3 h3 a4 h4 c0 c1 c2 x0 x1 xs)]
  unfold kernelRun1_C
  dsimp only
  sl_unfold_words
  rw [View.canon_unit_zero hz1]
  simp only [View.readAt_eq_ld, h0.read_unread, h1.read_unread, h3.read_unread, h4.read_unread, View.readCov_unit_zero (S := S2048x1792) _ hz1,
    View.ld_unit_zero (S := S2048x1792) hz1, View.ld_unit_zero (S := S2048x1024) hz1, View.ld_unit_zero (S := S1024x1792) hz1, View.ld_unit_zero (S := S1x1792) hz1]

/-- A later block (case D) adds its product to the accumulator. -/
theorem sout1_D_0_eq (c : Dev nD) (i : grid1.Coords) (a0 : Memref sig .tc .vmem S2048x1024 .bf16) (h0 : a0.IsWhole) (a1 : Memref sig .tc .vmem S1024x1792 .bf16) (h1 : a1.IsWhole) (a2 : Memref sig .tc .vmem S2048x1792 .bf16) (h2 : a2.IsWhole) (a3 : Memref sig .tc .vmem S1x1792 .f32) (h3 : a3.IsWhole) (a4 : Memref sig .tc .vmem S2048x1792 .f32) (h4 : a4.IsWhole) (c0 : ¬cond1_0 i) (c1 : cond1_1 i) (c2 : ¬cond1_2 i)
    (x0 : Vec F S2048x1024 .bf16) (x1 : Vec F S1024x1792 .bf16) (xo : Vec F S1x1792 .f32) (xs : Vec F S2048x1792 .f32) :
    sout1_D_0 c i a0 h0 a1 h1 a2 h2 a3 h3 a4 h4 c0 c1 c2 x0 x1 xo xs = k1_pay2 xs x0 x1 := by
  unfold sout1_D_0
  rw [View.read_writes_eq_canon _ _ _ (scover1_D_0 c i a0 h0 a1 h1 a2 h2 a3 h3 a4 h4 c0 c1 c2 x0 x1 xo xs)]
  unfold kernelRun1_D
  dsimp only
  sl_unfold_words
  rw [View.canon_unit_zero hz1]
  simp only [View.readAt_eq_ld, h0.read_unread, h1.read_unread, h3.read_unread, h4.read_unread, View.readCov_unit_zero (S := S2048x1792) _ hz1,
    View.ld_unit_zero (S := S2048x1792) hz1, View.ld_unit_zero (S := S2048x1024) hz1, View.ld_unit_zero (S := S1024x1792) hz1, View.ld_unit_zero (S := S1x1792) hz1]

/-- The last block of the contraction leaves the error block (first row block). -/
theorem out1_C_2_eq (c : Dev nD) (i : grid1.Coords) (a0 : Memref sig .tc .vmem S2048x1024 .bf16) (h0 : a0.IsWhole) (a1 : Memref sig .tc .vmem S1024x1792 .bf16) (h1 : a1.IsWhole) (a2 : Memref sig .tc .vmem S2048x1792 .bf16) (h2 : a2.IsWhole) (a3 : Memref sig .tc .vmem S1x1792 .f32) (h3 : a3.IsWhole) (a4 : Memref sig .tc .vmem S2048x1792 .f32) (h4 : a4.IsWhole) (c0 : ¬cond1_0 i) (c1 : cond1_1 i) (c2 : cond1_2 i)
    (x0 : Vec F S2048x1024 .bf16) (x1 : Vec F S1024x1792 .bf16) (xs : Vec F S2048x1792 .f32) :
    out1_C_2 c i a0 h0 a1 h1 a2 h2 a3 h3 a4 h4 c0 c1 c2 x0 x1 xs = k1_pay4 (k1_pay2 xs x0 x1) := by
  unfold out1_C_2
  rw [View.read_writes_eq_canon _ _ _ (cover1_C_2 c i a0 h0 a1 h1 a2 h2 a3 h3 a4 h4 c0 c1 c2 x0 x1 xs)]
  unfold kernelRun1_C
  dsimp only
  sl_unfold_words
  rw [View.canon_unit_zero hz1]
  simp only [View.readAt_eq_ld, h0.read_unread, h1.read_unread, h3.read_unread, h4.read_unread, View.readCov_unit_zero (S := S2048x1792) _ hz1,
    View.ld_unit_zero (S := S2048x1792) hz1, View.ld_unit_zero (S := S2048x1024) hz1, View.ld_unit_zero (S := S1024x1792) hz1, View.ld_unit_zero (S := S1x1792) hz1]

/-- The last block of the contraction leaves the error block (later row block). -/
theorem out1_D_2_eq (c : Dev nD) (i : grid1.Coords) (a0 : Memref sig .tc .vmem S2048x1024 .bf16) (h0 : a0.IsWhole) (a1 : Memref sig .tc .vmem S1024x1792 .bf16) (h1 : a1.IsWhole) (a2 : Memref sig .tc .vmem S2048x1792 .bf16) (h2 : a2.IsWhole) (a3 : Memref sig .tc .vmem S1x1792 .f32) (h3 : a3.IsWhole) (a4 : Memref sig .tc .vmem S2048x1792 .f32) (h4 : a4.IsWhole) (c0 : ¬cond1_0 i) (c1 : cond1_1 i) (c2 : ¬cond1_2 i)
    (x0 : Vec F S2048x1024 .bf16) (x1 : Vec F S1024x1792 .bf16) (xo : Vec F S1x1792 .f32) (xs : Vec F S2048x1792 .f32) :
    out1_D_2 c i a0 h0 a1 h1 a2 h2 a3 h3 a4 h4 c0 c1 c2 x0 x1 xo xs = k1_pay4 (k1_pay2 xs x0 x1) := by
  unfold out1_D_2
  rw [View.read_writes_eq_canon _ _ _ (cover1_D_2 c i a0 h0 a1 h1 a2 h2 a3 h3 a4 h4 c0 c1 c2 x0 x1 xo xs)]
  unfold kernelRun1_D
  dsimp only
  sl_unfold_words
  rw [View.canon_unit_zero hz1]
  simp only [View.readAt_eq_ld, h0.read_unread, h1.read_unread, h3.read_unread, h4.read_unread, View.readCov_unit_zero (S := S2048x1792) _ hz1,
    View.ld_unit_zero (S := S2048x1792) hz1, View.ld_unit_zero (S := S2048x1024) hz1, View.ld_unit_zero (S := S1024x1792) hz1, View.ld_unit_zero (S := S1x1792) hz1]

/-- The first row block starts the reconstruction row. -/
theorem out1_C_3_eq (c : Dev nD) (i : grid1.Coords) (a0 : Memref sig .tc .vmem S2048x1024 .bf16) (h0 : a0.IsWhole) (a1 : Memref sig .tc .vmem S1024x1792 .bf16) (h1 : a1.IsWhole) (a2 : Memref sig .tc .vmem S2048x1792 .bf16) (h2 : a2.IsWhole) (a3 : Memref sig .tc .vmem S1x1792 .f32) (h3 : a3.IsWhole) (a4 : Memref sig .tc .vmem S2048x1792 .f32) (h4 : a4.IsWhole) (c0 : ¬cond1_0 i) (c1 : cond1_1 i) (c2 : cond1_2 i)
    (x0 : Vec F S2048x1024 .bf16) (x1 : Vec F S1024x1792 .bf16) (xs : Vec F S2048x1792 .f32) :
    out1_C_3 c i a0 h0 a1 h1 a2 h2 a3 h3 a4 h4 c0 c1 c2 x0 x1 xs = k1_pay5 (k1_pay2 xs x0 x1) k1_pay3 := by
  unfold out1_C_3
  rw [View.read_writes_eq_canon _ _ _ (cover1_C_3 c i a0 h0 a1 h1 a2 h2 a3 h3 a4 h4 c0 c1 c2 x0 x1 xs)]
  unfold kernelRun1_C
  dsimp only
  sl_unfold_words
  rw [View.canon_cons_unit_zero (S := S1x1792) hz1, View.readCov_unit_zero (S := S1x1792) _ hz1]
  simp only [View.readAt_eq_ld, h0.read_unread, h1.read_unread, h3.read_unread, h4.read_unread, View.readCov_unit_zero (S := S2048x1792) _ hz1,
    View.ld_unit_zero (S := S2048x1792) hz1, View.ld_unit_zero (S := S2048x1024) hz1, View.ld_unit_zero (S := S1024x1792) hz1, View.ld_unit_zero (S := S1x1792) hz1]

/-- A later row block adds its share to the reconstruction row. -/
theorem out1_D_3_eq (c : Dev nD) (i : grid1.Coords) (a0 : Memref sig .tc .vmem S2048x1024 .bf16) (h0 : a0.IsWhole) (a1 : Memref sig .tc .vmem S1024x1792 .bf16) (h1 : a1.IsWhole) (a2 : Memref sig .tc .vmem S2048x1792 .bf16) (h2 : a2.IsWhole) (a3 : Memref sig .tc .vmem S1x1792 .f32) (h3 : a3.IsWhole) (a4 : Memref sig .tc .vmem S2048x1792 .f32) (h4 : a4.IsWhole) (c0 : ¬cond1_0 i) (c1 : cond1_1 i) (c2 : ¬cond1_2 i)
    (x0 : Vec F S2048x1024 .bf16) (x1 : Vec F S1024x1792 .bf16) (xo : Vec F S1x1792 .f32) (xs : Vec F S2048x1792 .f32) :
    out1_D_3 c i a0 h0 a1 h1 a2 h2 a3 h3 a4 h4 c0 c1 c2 x0 x1 xo xs = k1_pay5 (k1_pay2 xs x0 x1) xo := by
  unfold out1_D_3
  rw [View.read_writes_eq_canon _ _ _ (cover1_D_3 c i a0 h0 a1 h1 a2 h2 a3 h3 a4 h4 c0 c1 c2 x0 x1 xo xs)]
  unfold kernelRun1_D
  dsimp only
  sl_unfold_words
  rw [View.canon_unit_zero hz1]
  simp only [View.readAt_eq_ld, h0.read_unread, h1.read_unread, h3.read_unread, h4.read_unread, View.readCov_unit_zero (S := S2048x1792) _ hz1,
    View.ld_unit_zero (S := S2048x1792) hz1, View.ld_unit_zero (S := S2048x1024) hz1, View.ld_unit_zero (S := S1024x1792) hz1, View.ld_unit_zero (S := S1x1792) hz1]

end Cert.KernelIdeal.Value
-- ==== Proof.Value.Fwd.lean ====
/- What the forward call leaves in its two result arrays, over the extended reals. -/
module

public import proofs.«01_k».proof.Proof.Value.Payload1
public import proofs.«01_k».proof.Proof.Value.Cases1

@[expose] public section

noncomputable section

namespace Cert.KernelIdeal.Value

open Idealize.ShloMosaic Idealize.ShloMosaic.TcCoe Idealize.ShloMosaic.ValueIdx Cert.Value Idealize.SL.Sem
open Cert.KernelIdeal Cert.KernelIdeal.Gen Cert.KernelIdeal.Run
open Idealize.ShloMosaic.Pipeline (Dat)
open scoped BigOperators

variable (V : (c : Dev nD) → (b : Ref sig .tc) → Buf (Elt Ideal) ((c : Thread nD τ).loc b))

/-- The activations. -/
def xA (c : Dev nD) (a b : ℕ) : EReal := at2 (A := 16384) (B := 18432) (α := EReal) (V c main_v0) a b
/-- The residual, as the forward call finds it. -/
def dF (c : Dev nD) (a b : ℕ) : EReal := at2 (A := 18432) (B := 7168) (α := EReal) (V c main_v1_0) a b

/-- The block every window is at, at each grid point. -/
theorem idx1 : ∀ t : Fin cfg1.N,
    (win1_0.index t (0 : Fin 2) = t.val / 18 % 8 ∧ win1_0.index t (1 : Fin 2) = t.val % 18)
    ∧ (win1_1.index t (0 : Fin 2) = t.val % 18 ∧ win1_1.index t (1 : Fin 2) = t.val / 144)
    ∧ (win1_2.index t (0 : Fin 2) = t.val / 18 % 8 ∧ win1_2.index t (1 : Fin 2) = t.val / 144)
    ∧ (win1_3.index t (0 : Fin 2) = 0 ∧ win1_3.index t (1 : Fin 2) = t.val / 144) :=
  (by decide +kernel : ∀ t : Fin grid1.N, _)

theorem iblk1_0 (c : Dev nD) (t : Fin cfg1.N) (y : S2048x1024.Idx) :
    (iblk1 V c 0 t : Vec Ideal S2048x1024 .bf16) y = xA V c (2048 * (t.val / 18 % 8) + (y 0).val) (1024 * (t.val % 18) + (y 1).val) := by
  obtain ⟨h, -⟩ := idx1 t
  refine (?_ : _ = V c main_v0 (((cfg1.win 0).blk t).view.emb y)).trans (eq_at2 (A := 16384) (B := 18432) (α := EReal) _ _ ?_ ?_)
  · rfl
  · show win1_0.index t (0 : Fin 2) * 2048 + 1 * (y 0).val = _; rw [h.1]; omega
  · show win1_0.index t (1 : Fin 2) * 1024 + 1 * (y 1).val = _; rw [h.2]; omega

theorem iblk1_1 (c : Dev nD) (t : Fin cfg1.N) (y : S1024x1792.Idx) :
    (iblk1 V c 1 t : Vec Ideal S1024x1792 .bf16) y = dF V c (1024 * (t.val % 18) + (y 0).val) (1792 * (t.val / 144) + (y 1).val) := by
  obtain ⟨-, h, -⟩ := idx1 t
  refine (?_ : _ = V c main_v1_0 (((cfg1.win 1).blk t).view.emb y)).trans (eq_at2 (A := 18432) (B := 7168) (α := EReal) _ _ ?_ ?_)
  · rfl
  · show win1_1.index t (0 : Fin 2) * 1024 + 1 * (y 0).val = _; rw [h.1]; omega
  · show win1_1.index t (1 : Fin 2) * 1792 + 1 * (y 1).val = _; rw [h.2]; omega

/-! ## The accumulator -/

/-- Contraction block `s`'s product at row `m`, column `n`. -/
def pF (c : Dev nD) (m n s : ℕ) : EReal :=
  ∑ r ∈ Finset.range 1024, xA V c m (1024 * s + r) * dF V c (1024 * s + r) n

theorem prod1 (c : Dev nD) (t : Fin cfg1.N) (acc : Vec Ideal S2048x1792 .f32) (y : S2048x1792.Idx) :
    k1_pay2 acc (iblk1 V c 0 t : Vec Ideal S2048x1024 .bf16) (iblk1 V c 1 t : Vec Ideal S1024x1792 .bf16) y
      = acc y + pF V c (2048 * (t.val / 18 % 8) + (y 0).val) (1792 * (t.val / 144) + (y 1).val) (t.val % 18) := by
  have h0 : (y 0).val < 2048 := (y 0).isLt
  have h1 : (y 1).val < 1792 := (y 1).isLt
  rw [k1_pay2_apply]
  unfold pF
  refine congrArg _ (Finset.sum_congr rfl fun r hr => ?_)
  have hr := Finset.mem_range.1 hr
  rw [at2_of_lt _ h0 hr, at2_of_lt _ hr h1, iblk1_0, iblk1_1]

theorem acc1_A (c : Dev nD) (t : Fin cfg1.N) (h0 : t.val % 18 = 0) (y : S2048x1792.Idx) :
    (outsAt1 V c t.val t.isLt).2.2 y = pF V c (2048 * (t.val / 18 % 8) + (y 0).val) (1792 * (t.val / 144) + (y 1).val) 0 := by
  rw [outsAt1_A V c t h0 (by omega)]
  dsimp only
  rw [sout1_A_0_eq]
  refine (prod1 V c t _ y).trans ?_
  rw [k1_pay1_apply, zero_add, h0]

/-- The accumulator after a later block, over the one before. -/
theorem acc1_step (c : Dev nD) (t : Fin cfg1.N) (h0 : ¬t.val % 18 = 0) :
    (outsAt1 V c t.val t.isLt).2.2 = k1_pay2 (outsAt1 V c (t.val - 1) (Nat.lt_of_le_of_lt (Nat.sub_le _ _) t.isLt)).2.2
      (iblk1 V c 0 t : Vec Ideal S2048x1024 .bf16) (iblk1 V c 1 t : Vec Ideal S1024x1792 .bf16) := by
  by_cases h1 : t.val % 18 = 17
  · by_cases h2 : t.val / 18 % 8 = 0
    · rw [outsAt1_C V c t h0 h1 h2]; dsimp only; rw [sout1_C_0_eq]
    · rw [outsAt1_D V c t h0 h1 h2]; dsimp only; rw [sout1_D_0_eq]
  · rw [outsAt1_B V c t h0 h1]; dsimp only; rw [sout1_B_0_eq]

/-- The accumulator after each point: the contraction blocks so far. -/
theorem acc1 (c : Dev nD) : ∀ (n : ℕ) (h : n < cfg1.N) (y : S2048x1792.Idx),
    (outsAt1 V c n h).2.2 y = ∑ s ∈ Finset.range (n % 18 + 1), pF V c (2048 * (n / 18 % 8) + (y 0).val) (1792 * (n / 144) + (y 1).val) s := by
  intro n
  induction n with
  | zero => intro h y; exact (acc1_A V c ⟨0, h⟩ rfl y).trans (Finset.sum_range_one fun s => pF V c (2048 * (0 / 18 % 8) + (y 0).val) (1792 * (0 / 144) + (y 1).val) s).symm
  | succ n ih =>
    intro h y
    by_cases h0 : (n + 1) % 18 = 0
    · refine (acc1_A V c ⟨n + 1, h⟩ h0 y).trans ?_
      rw [h0]
      exact (Finset.sum_range_one fun s => pF V c (2048 * ((n + 1) / 18 % 8) + (y 0).val) (1792 * ((n + 1) / 144) + (y 1).val) s).symm
    · refine (congrFun (acc1_step V c ⟨n + 1, h⟩ h0) y).trans ?_
      refine (prod1 V c ⟨n + 1, h⟩ _ y).trans ?_
      show (outsAt1 V c n _).2.2 y + pF V c (2048 * ((n + 1) / 18 % 8) + (y 0).val) (1792 * ((n + 1) / 144) + (y 1).val) ((n + 1) % 18) = _
      rw [ih, show (n + 1) % 18 = n % 18 + 1 by omega, show (n + 1) / 18 = n / 18 by omega, show (n + 1) / 144 = n / 144 by omega]
      exact (Finset.sum_range_succ _ _).symm

/-! ## The error -/

/-- The error at row `m`, column `n`. -/
def eA (c : Dev nD) (m n : ℕ) : EReal := ∑ s ∈ Finset.range 18, pF V c m n s

theorem acc1_last (c : Dev nD) (t : Fin cfg1.N) (h1 : t.val % 18 = 17) (y : S2048x1792.Idx) :
    (outsAt1 V c t.val t.isLt).2.2 y = eA V c (2048 * (t.val / 18 % 8) + (y 0).val) (1792 * (t.val / 144) + (y 1).val) := by
  rw [acc1, h1]; rfl

/-- The last contraction block leaves the accumulator as the error block. -/
theorem outs1_2 (c : Dev nD) (t : Fin cfg1.N) (h1 : t.val % 18 = 17) :
    (outsAt1 V c t.val t.isLt).1 = k1_pay4 (outsAt1 V c t.val t.isLt).2.2 := by
  have h0 : ¬t.val % 18 = 0 := by omega
  rw [acc1_step V c t h0]
  by_cases h2 : t.val / 18 % 8 = 0
  · rw [outsAt1_C V c t h0 h1 h2]; dsimp only; rw [out1_C_2_eq]
  · rw [outsAt1_D V c t h0 h1 h2]; dsimp only; rw [out1_D_2_eq]

theorem mem_blk1_2 (t : Fin cfg1.N) (i : S16384x7168.Idx) :
    i ∈ ((cfg1.win 2).blk t).view.set ↔ ∀ a : Fin 2, win1_2.index t a * S2048x1792.size a ≤ (i a).val ∧ (i a).val < win1_2.index t a * S2048x1792.size a + S2048x1792.size a := by
  show i ∈ ((View.whole main_v2_0).slice (win1_2.rect t)).set ↔ _
  rw [View.set_slice_whole, Rect.mem_set_unit]
  exact Iff.rfl

/-- The first result of the forward call is the error. -/
theorem final1_2 (c : Dev nD) : (dat1 V c).arrAt 2 cfg1.N = mk2 16384 7168 (eA V c) := by
  refine (dat1 V c).arrAt_eq_of_cover 2 _ (fun t hf => ?_) (fun i => ?_)
  · show (cfg1.win 2).cut (grid1.coords t) ((dat1 V c).after 2 t) = _
    rw [after1_2]
    have hm : t.val % 18 = 17 := (flush1_2 t).mp hf
    obtain ⟨-, -, h, -⟩ := idx1 t
    funext y
    refine (congrFun (outs1_2 V c t hm) y).trans ((k1_pay4_apply _ y).trans ((acc1_last V c t hm y).trans ?_))
    show _ = eA V c (win1_2.index t (0 : Fin 2) * 2048 + 1 * (y 0).val) (win1_2.index t (1 : Fin 2) * 1792 + 1 * (y 1).val)
    rw [h.1, h.2]
    congr 1 <;> omega
  · have hi0 : (i 0).val < 16384 := (i 0).isLt
    have hi1 : (i 1).val < 7168 := (i 1).isLt
    have hN : cfg1.N = 576 := N_1
    let t : Fin cfg1.N := ⟨144 * ((i 1).val / 1792) + 18 * ((i 0).val / 2048) + 17, by omega⟩
    obtain ⟨-, -, h, -⟩ := idx1 t
    have e0 : t.val / 18 % 8 = (i 0).val / 2048 := by show (144 * ((i 1).val / 1792) + 18 * ((i 0).val / 2048) + 17) / 18 % 8 = _; omega
    have e1 : t.val / 144 = (i 1).val / 1792 := by show (144 * ((i 1).val / 1792) + 18 * ((i 0).val / 2048) + 17) / 144 = _; omega
    refine ⟨t, (flush1_2 t).mpr (by show (144 * ((i 1).val / 1792) + 18 * ((i 0).val / 2048) + 17) % 18 = 17; omega), (mem_blk1_2 t i).2 fun a => ?_⟩
    match a with
    | ⟨0, _⟩ => show win1_2.index t (0 : Fin 2) * 2048 ≤ (i 0).val ∧ (i 0).val < win1_2.index t (0 : Fin 2) * 2048 + 2048; rw [h.1, e0]; omega
    | ⟨1, _⟩ => show win1_2.index t (1 : Fin 2) * 1792 ≤ (i 1).val ∧ (i 1).val < win1_2.index t (1 : Fin 2) * 1792 + 1792; rw [h.2, e1]; omega

/-! ## The reconstruction row -/

/-- Row block `i`'s mean-square share at column `n`. -/
def qF (c : Dev nD) (i n : ℕ) : EReal :=
  Ideal.ofBits .f32 0x38800000#32 * ∑ r ∈ Finset.range 2048, eA V c (2048 * i + r) n * eA V c (2048 * i + r) n

theorem share1 (c : Dev nD) (t : Fin cfg1.N) (h1 : t.val % 18 = 17) (acc : Vec Ideal S1x1792 .f32) (y : S1x1792.Idx) :
    k1_pay5 (outsAt1 V c t.val t.isLt).2.2 acc y = acc y + qF V c (t.val / 18 % 8) (1792 * (t.val / 144) + (y 1).val) := by
  have hy : (y 1).val < 1792 := (y 1).isLt
  rw [k1_pay5_apply]
  unfold qF
  refine congrArg (fun z => acc y + Ideal.ofBits .f32 0x38800000#32 * z) (Finset.sum_congr rfl fun r hr => ?_)
  have hr := Finset.mem_range.1 hr
  rw [at2_of_lt _ hr hy, acc1_last V c t h1]

theorem row1_idle (c : Dev nD) (t : Fin cfg1.N) (h1 : ¬t.val % 18 = 17) :
    (outsAt1 V c t.val t.isLt).2.1 = (outsAt1 V c (t.val - 1) (Nat.lt_of_le_of_lt (Nat.sub_le _ _) t.isLt)).2.1 := by
  by_cases h0 : t.val % 18 = 0
  · rw [outsAt1_A V c t h0 h1]; dsimp only; unfold out1_A_3; rfl
  · rw [outsAt1_B V c t h0 h1]; dsimp only; unfold out1_B_3; rfl

theorem row1_C (c : Dev nD) (t : Fin cfg1.N) (h1 : t.val % 18 = 17) (h2 : t.val / 18 % 8 = 0) (y : S1x1792.Idx) :
    (outsAt1 V c t.val t.isLt).2.1 y = qF V c 0 (1792 * (t.val / 144) + (y 1).val) := by
  have h0 : ¬t.val % 18 = 0 := by omega
  have e : (outsAt1 V c t.val t.isLt).2.1 = k1_pay5 (outsAt1 V c t.val t.isLt).2.2 (k1_pay3 (F := Ideal)) := by
    rw [acc1_step V c t h0, outsAt1_C V c t h0 h1 h2]; dsimp only; rw [out1_C_3_eq]
  rw [e, share1 V c t h1, k1_pay3_apply, zero_add, h2]

theorem row1_D (c : Dev nD) (t : Fin cfg1.N) (h1 : t.val % 18 = 17) (h2 : ¬t.val / 18 % 8 = 0) (y : S1x1792.Idx) :
    (outsAt1 V c t.val t.isLt).2.1 y = (outsAt1 V c (t.val - 1) (Nat.lt_of_le_of_lt (Nat.sub_le _ _) t.isLt)).2.1 y
      + qF V c (t.val / 18 % 8) (1792 * (t.val / 144) + (y 1).val) := by
  have h0 : ¬t.val % 18 = 0 := by omega
  have e : (outsAt1 V c t.val t.isLt).2.1 = k1_pay5 (outsAt1 V c t.val t.isLt).2.2 (outsAt1 V c (t.val - 1) (Nat.lt_of_le_of_lt (Nat.sub_le _ _) t.isLt)).2.1 := by
    rw [acc1_step V c t h0, outsAt1_D V c t h0 h1 h2]; dsimp only; rw [out1_D_3_eq]
  rw [e, share1 V c t h1]

/-- The row once a row block has been added: the shares of the row blocks done. -/
theorem row1 (c : Dev nD) : ∀ (n : ℕ) (h : n < cfg1.N) (y : S1x1792.Idx), 0 < n / 18 % 8 + (n % 18 + 1) / 18 →
    (outsAt1 V c n h).2.1 y = ∑ i ∈ Finset.range (n / 18 % 8 + (n % 18 + 1) / 18), qF V c i (1792 * (n / 144) + (y 1).val) := by
  intro n
  induction n with
  | zero => intro h y hp; exact absurd hp (by decide)
  | succ n ih =>
    intro h y hp
    by_cases h1 : (n + 1) % 18 = 17
    · by_cases h2 : (n + 1) / 18 % 8 = 0
      · refine (row1_C V c ⟨n + 1, h⟩ h1 h2 y).trans ?_
        rw [h2, h1]
        exact (Finset.sum_range_one fun i => qF V c i (1792 * ((n + 1) / 144) + (y 1).val)).symm
      · refine (row1_D V c ⟨n + 1, h⟩ h1 h2 y).trans ?_
        show (outsAt1 V c n _).2.1 y + qF V c ((n + 1) / 18 % 8) (1792 * ((n + 1) / 144) + (y 1).val) = _
        rw [ih _ y (by omega), show n / 18 % 8 + (n % 18 + 1) / 18 = (n + 1) / 18 % 8 by omega,
          show (n + 1) / 18 % 8 + ((n + 1) % 18 + 1) / 18 = (n + 1) / 18 % 8 + 1 by omega, show n / 144 = (n + 1) / 144 by omega]
        exact (Finset.sum_range_succ _ _).symm
    · refine (congrFun (row1_idle V c ⟨n + 1, h⟩ h1) y).trans ?_
      show (outsAt1 V c n _).2.1 y = _
      rw [ih _ y (by omega), show n / 18 % 8 + (n % 18 + 1) / 18 = (n + 1) / 18 % 8 + ((n + 1) % 18 + 1) / 18 by omega,
        show n / 144 = (n + 1) / 144 by omega]

/-- The reconstruction error of column `n`. -/
def rcA (c : Dev nD) (n : ℕ) : EReal := ∑ i ∈ Finset.range 8, qF V c i n

theorem mem_blk1_3 (t : Fin cfg1.N) (i : S1x7168.Idx) :
    i ∈ ((cfg1.win 3).blk t).view.set ↔ ∀ a : Fin 2, win1_3.index t a * S1x1792.size a ≤ (i a).val ∧ (i a).val < win1_3.index t a * S1x1792.size a + S1x1792.size a := by
  show i ∈ ((View.whole main_v2_1).slice (win1_3.rect t)).set ↔ _
  rw [View.set_slice_whole, Rect.mem_set_unit]
  exact Iff.rfl

/-- The second result of the forward call is the reconstruction row. -/
theorem final1_3 (c : Dev nD) : (dat1 V c).arrAt 3 cfg1.N = mk2 1 7168 fun _ n => rcA V c n := by
  refine (dat1 V c).arrAt_eq_of_cover 3 _ (fun t hf => ?_) (fun i => ?_)
  · show (cfg1.win 3).cut (grid1.coords t) ((dat1 V c).after 3 t) = _
    rw [after1_3]
    have hm : t.val % 144 = 143 := (flush1_3 t).mp hf
    obtain ⟨-, -, -, h⟩ := idx1 t
    funext y
    refine (row1 V c t.val t.isLt y (by omega)).trans ?_
    show _ = rcA V c (win1_3.index t (1 : Fin 2) * 1792 + 1 * (y 1).val)
    rw [h.2, show t.val / 18 % 8 + (t.val % 18 + 1) / 18 = 8 by omega]
    unfold rcA
    rw [show t.val / 144 * 1792 + 1 * (y 1).val = 1792 * (t.val / 144) + (y 1).val by omega]
  · have hi0 : (i 0).val < 1 := (i 0).isLt
    have hi1 : (i 1).val < 7168 := (i 1).isLt
    have hN : cfg1.N = 576 := N_1
    let t : Fin cfg1.N := ⟨144 * ((i 1).val / 1792) + 143, by omega⟩
    obtain ⟨-, -, -, h⟩ := idx1 t
    have e1 : t.val / 144 = (i 1).val / 1792 := by show (144 * ((i 1).val / 1792) + 143) / 144 = _; omega
    refine ⟨t, (flush1_3 t).mpr (by show (144 * ((i 1).val / 1792) + 143) % 144 = 143; omega), (mem_blk1_3 t i).2 fun a => ?_⟩
    match a with
    | ⟨0, _⟩ => show win1_3.index t (0 : Fin 2) * 1 ≤ (i 0).val ∧ (i 0).val < win1_3.index t (0 : Fin 2) * 1 + 1; rw [h.1]; omega
    | ⟨1, _⟩ => show win1_3.index t (1 : Fin 2) * 1792 ≤ (i 1).val ∧ (i 1).val < win1_3.index t (1 : Fin 2) * 1792 + 1792; rw [h.2, e1]; omega

end Cert.KernelIdeal.Value
-- ==== Proof.Value.Cases2.lean ====
module

public import proofs.«01_k».proof.Proof.Run.Region2
public import Idealize.ShloMosaic.Lib.Pipeline.Value

/-!
# What one grid point of the gradient call leaves before its last row block

The accumulator block of `cc2_bwd` at a first and at a later row block, as the printed payloads of
the blocks it read.
-/

@[expose] public section

noncomputable section

namespace Cert.KernelIdeal.Value

open Idealize.ShloMosaic Idealize.SL.Sem
open Cert.KernelIdeal Cert.KernelIdeal.Gen Cert.KernelIdeal.Run

variable {F : FTy → Type} [FloatOps F]

theorem hz2 : (![0, 0] : Fin 2 → Nat) = fun _ => 0 := funext fun a => by fin_cases a <;> rfl

/-- A first row block starts the accumulator at its own product. -/
theorem out2_A_5_eq (c : Dev nD) (i : grid2.Coords) (a0 : Memref sig .tc .vmem S1024x1024 .bf16) (h0 : a0.IsWhole) (a1 : Memref sig .tc .vmem S1024x1792 .bf16) (h1 : a1.IsWhole) (a2 : Memref sig .tc .vmem S1024x1792 .f32) (h2 : a2.IsWhole) (a3 : Memref sig .tc .vmem S1024x1792 .i8) (h3 : a3.IsWhole) (a4 : Memref sig .tc .vmem S16x1792 .f32) (h4 : a4.IsWhole) (a5 : Memref sig .tc .vmem S1024x1792 .f32) (h5 : a5.IsWhole) (c0 : cond2_0 i) (c1 : ¬cond2_1 i)
    (x0 : Vec F S1024x1024 .bf16) (x1 : Vec F S1024x1792 .bf16) (x2 : Vec F S1024x1792 .f32) (x3 : Vec F S1024x1792 .i8) (x4 : Vec F S16x1792 .f32) :
    out2_A_5 c i a0 h0 a1 h1 a2 h2 a3 h3 a4 h4 a5 h5 c0 c1 x0 x1 x2 x3 x4 = k2_pay2 k2_pay1 x0 x1 := by
  unfold out2_A_5
  rw [View.read_writes_eq_canon _ _ _ (cover2_A_5 c i a0 h0 a1 h1 a2 h2 a3 h3 a4 h4 a5 h5 c0 c1 x0 x1 x2 x3 x4)]
  unfold kernelRun2_A
  dsimp only
  sl_unfold_words
  rw [View.canon_cons_unit_zero (S := S1024x1792) hz2, View.readCov_unit_zero (S := S1024x1792) _ hz2]
  simp only [View.readAt_eq_ld, h0.read_unread, h1.read_unread, h5.read_unread,
    View.ld_unit_zero (S := S1024x1024) hz2, View.ld_unit_zero (S := S1024x1792) hz2]

/-- A later row block adds its product to the accumulator. -/
theorem out2_B_5_eq (c : Dev nD) (i : grid2.Coords) (a0 : Memref sig .tc .vmem S1024x1024 .bf16) (h0 : a0.IsWhole) (a1 : Memref sig .tc .vmem S1024x1792 .bf16) (h1 : a1.IsWhole) (a2 : Memref sig .tc .vmem S1024x1792 .f32) (h2 : a2.IsWhole) (a3 : Memref sig .tc .vmem S1024x1792 .i8) (h3 : a3.IsWhole) (a4 : Memref sig .tc .vmem S16x1792 .f32) (h4 : a4.IsWhole) (a5 : Memref sig .tc .vmem S1024x1792 .f32) (h5 : a5.IsWhole) (c0 : ¬cond2_0 i) (c1 : ¬cond2_1 i)
    (x0 : Vec F S1024x1024 .bf16) (x1 : Vec F S1024x1792 .bf16) (x2 : Vec F S1024x1792 .f32) (x3 : Vec F S1024x1792 .i8) (x4 : Vec F S16x1792 .f32) (xo : Vec F S1024x1792 .f32) :
    out2_B_5 c i a0 h0 a1 h1 a2 h2 a3 h3 a4 h4 a5 h5 c0 c1 x0 x1 x2 x3 x4 xo = k2_pay2 xo x0 x1 := by
  unfold out2_B_5
  rw [View.read_writes_eq_canon _ _ _ (cover2_B_5 c i a0 h0 a1 h1 a2 h2 a3 h3 a4 h4 a5 h5 c0 c1 x0 x1 x2 x3 x4 xo)]
  unfold kernelRun2_B
  dsimp only
  sl_unfold_words
  rw [View.canon_unit_zero hz2]
  simp only [View.readAt_eq_ld, h0.read_unread, h1.read_unread, h5.read_unread,
    View.ld_unit_zero (S := S1024x1024) hz2, View.ld_unit_zero (S := S1024x1792) hz2]

end Cert.KernelIdeal.Value
-- ==== Proof.Value.Dot.lean ====
/- A product contracting the first axis of both operands, read at an element, for the kernel's and the host's product. -/
module

public import Idealize.ShloMosaic.Lib.MatmulPlain
public import Idealize.ShloMosaic.Lib.StackMember

@[expose] public section

noncomputable section

namespace Cert.Value

open Idealize.ShloMosaic Idealize.ShloMosaic.ValueIdx
open scoped BigOperators

variable {K M N : ℕ}

/-- `[K,M]ᵀ × [K,N]`. -/
abbrev dimsT (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], w⟩

variable (w : DotDims.WF ⟨2, ![K, M]⟩ ⟨2, ![K, N]⟩ ⟨2, ![M, N]⟩ [0] [0] [1] [1] [] [])

theorem dimsT_lhs (r : Fin M) (c : Fin N) (k : Fin K) :
    (dimsT w).lhsIdx (ix2 r c) ((contrEquiv1 (dimsT w) K rfl rfl).symm k) = ix2 k r := by
  have hk := contrEquiv1_symm_val (dimsT w) K rfl rfl k
  funext a; apply Fin.ext
  match a with
  | ⟨0, _⟩ => exact hk
  | ⟨1, _⟩ => rfl

theorem dimsT_rhs (r : Fin M) (c : Fin N) (k : Fin K) :
    (dimsT w).rhsIdx (ix2 r c) ((contrEquiv1 (dimsT w) K rfl rfl).symm k) = ix2 k c := by
  have hk := contrEquiv1_symm_val (dimsT w) K rfl rfl k
  funext a; apply Fin.ext
  match a with
  | ⟨0, _⟩ => exact hk
  | ⟨1, _⟩ => rfl

/-- The kernel's product. -/
theorem matmulT_apply {φ₁ φ₂ : FTy} (prec : Option ContractPrecision) (lhs : FVec Ideal ⟨2, ![K, M]⟩ φ₁)
    (rhs : FVec Ideal ⟨2, ![K, N]⟩ φ₂) (acc : FVec Ideal ⟨2, ![M, N]⟩ .f32) (r : Fin M) (c : Fin N) :
    FloatOps.matmul (dimsT w) prec lhs rhs acc (ix2 r c) = acc (ix2 r c) + ∑ k : Fin K, lhs (ix2 k r) * rhs (ix2 k c) := by
  rw [Ideal.matmul_apply, ← Equiv.sum_comp (contrEquiv1 (dimsT w) K rfl rfl).symm]
  refine congrArg (acc (ix2 r c) + ·) (Finset.sum_congr rfl fun k _ => ?_)
  rw [dimsT_lhs, dimsT_rhs]

/-- The host's product. -/
theorem dotGeneralT_apply {φ₁ φ₂ : FTy} (prec : Option ContractPrecision) (sched : HostSchedule) (lhs : FVec Ideal ⟨2, ![K, M]⟩ φ₁)
    (rhs : FVec Ideal ⟨2, ![K, N]⟩ φ₂) (r : Fin M) (c : Fin N) :
    FloatOps.dotGeneral (dimsT w) prec sched lhs rhs (ix2 r c) = ∑ k : Fin K, lhs (ix2 k r) * rhs (ix2 k c) := by
  rw [Ideal.dotGeneral_apply, ← Equiv.sum_comp (contrEquiv1 (dimsT w) K rfl rfl).symm]
  refine Finset.sum_congr rfl fun k _ => ?_
  rw [dimsT_lhs, dimsT_rhs]

end Cert.Value
-- ==== Proof.Value.Loop2.lean ====
/- The gradient call's counted loop over the 16 scale groups of a block, and its payloads read at an element. -/
module

public import proofs.«01_k».proof.Proof.Value.Scalar
public import proofs.«01_k».proof.Proof.Value.Dot
public import proofs.«01_k».proof.Proof.Gen.KernelIdeal.Loops
public import Idealize.ShloMosaic.Lib.WritesUnit

@[expose] public section

noncomputable section

namespace Cert.KernelIdeal.Value

open Idealize.ShloMosaic Idealize.ShloMosaic.TcCoe Idealize.ShloMosaic.ValueIdx Cert.Value Idealize.SL.Sem
open Cert.KernelIdeal Cert.KernelIdeal.Gen
open scoped BigOperators

/-! ## The payloads -/

/-- The zero block. -/
theorem k2_pay1_apply (j : S1024x1792.Idx) : (k2_pay1 : FVec Ideal S1024x1792 .f32) j = 0 := Ideal.ofBits_zero_f32

/-- One block product, contracting the rows of both blocks, added to the accumulator. -/
theorem k2_pay2_apply (acc : Vec Ideal S1024x1792 .f32) (x : Vec Ideal S1024x1024 .bf16) (e : Vec Ideal S1024x1792 .bf16)
    (j : S1024x1792.Idx) :
    k2_pay2 acc x e j = acc j + ∑ r ∈ Finset.range 1024,
      at2 (A := 1024) (B := 1024) (α := EReal) x r (j 0).val * at2 (A := 1024) (B := 1792) (α := EReal) e r (j 1).val := by
  have h0 : (j 0).val < 1024 := (j 0).isLt
  have h1 : (j 1).val < 1792 := (j 1).isLt
  unfold k2_pay2
  simp only [shapeCast_self]
  show acc j + FloatOps.matmul (F := Ideal) (dimsT (K := 1024) (M := 1024) (N := 1792) dot_S1024x1024_S1024x1792_S1024x1792_0_0_1_1_n_n_wf) none x e _ j = _
  refine congrArg (acc j + ·) ?_
  rw [eq_ix2 j]
  refine (matmulT_apply (φ₁ := .bf16) (φ₂ := .bf16) _ none x e _ (j 0) (j 1)).trans ?_
  rw [show (constant S1024x1792 .f32 0x00000000#32 : FVec Ideal S1024x1792 .f32) (ix2 (j 0) (j 1)) = 0 from Ideal.ofBits_zero_f32, zero_add, Finset.sum_range]
  refine Finset.sum_congr rfl fun k _ => ?_
  rw [at2_of_lt _ k.isLt h0, at2_of_lt _ k.isLt h1]
  rfl

/-- One group's gradient rows, elementwise. -/
theorem k2_pay3_apply (v : Vec Ideal S64x1792 .f32) (n : Vec Ideal S64x1792 .i8) (g : Vec Ideal S64x1792 .f32) (s : Vec Ideal S1x1792 .f32)
    (i : S64x1792.Idx) :
    k2_pay3 (k2_pay7 v n) (k2_pay8 v) (k2_pay9 v) (k2_pay10 g) s i = gg (n i) (s (ix2 (n0 := 1) (n1 := 1792) ⟨0, by omega⟩ (i 1))) (v i) (g i) := by
  have e : broadcastTo S64x1792 s broadcasts_S1x1792_S64x1792 i = s (ix2 (n0 := 1) (n1 := 1792) ⟨0, by omega⟩ (i 1)) :=
    broadcastTo_apply _ _ _ _ (fun a => by match a with | ⟨0, _⟩ => rfl | ⟨1, _⟩ => rfl)
  rw [← e]
  unfold k2_pay10
  rw [shapeCast_self]
  rfl

/-! ## One trip -/

theorem trips2 : k2_t1_loop.trips = 16 := by decide +kernel

theorem off2_1 : ∀ k : Fin k2_t1_loop.trips, k2_off1 k = ![64 * k.val, 0] := by decide +kernel

theorem off2_2 : ∀ k : Fin k2_t1_loop.trips, k2_off2 k = ![k.val, 0] := by decide +kernel

section Loop
variable (𝒱 : Variants) (c : Dev nD) (bd : Option 𝒱.V) (i : grid2.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (arg6 : Memref sig .tc .vmem S1024x1792 .i8) (harg6 : arg6.IsWhole) (arg7 : Memref sig .tc .vmem S16x1792 .f32) (harg7 : arg7.IsWhole) (arg8 : Memref sig .tc .vmem S1024x1792 .f32) (harg8 : arg8.IsWhole) (k2_h2 : k2_cond2 i = 1#1) (X_arg5 : BufTy.Contents (Elt Ideal) arg5.view.ty) (X_arg6 : BufTy.Contents (Elt Ideal) arg6.view.ty) (X_arg7 : BufTy.Contents (Elt Ideal) arg7.view.ty)

/-- Trip `k` stores one piece, rows `64 k` to `64 k + 63`, computed from the rows it finds there. -/
theorem trip2 (k : Fin k2_t1_loop.trips) (f_arg8 : BufTy.Contents (Elt Ideal) arg8.view.ty) :
    tripL_k2_t1 (F := Ideal) 𝒱 c bd i arg3 harg3 arg4 harg4 arg5 harg5 arg6 harg6 arg7 harg7 arg8 harg8 k2_h2 X_arg5 X_arg6 X_arg7 k f_arg8
      = [⟨Rect.unit (k2_off1 k) S64x1792.size (k2_off1_inb i k k2_h2),
          k2_pay3
            (k2_pay7 (View.ld (arg5.view.read (Elt Ideal) X_arg5) (Rect.unit (k2_off1 k) S64x1792.size (k2_off1_inb i k k2_h2)))
              (View.ld (arg6.view.read (Elt Ideal) X_arg6) (Rect.unit (k2_off1 k) S64x1792.size (k2_off1_inb i k k2_h2))))
            (k2_pay8 (View.ld (arg5.view.read (Elt Ideal) X_arg5) (Rect.unit (k2_off1 k) S64x1792.size (k2_off1_inb i k k2_h2))))
            (k2_pay9 (View.ld (arg5.view.read (Elt Ideal) X_arg5) (Rect.unit (k2_off1 k) S64x1792.size (k2_off1_inb i k k2_h2))))
            (k2_pay10 (View.ld (arg8.view.read (Elt Ideal) f_arg8) (Rect.unit (k2_off1 k) S64x1792.size (k2_off1_inb i k k2_h2))))
            (View.ld (arg7.view.read (Elt Ideal) X_arg7) (Rect.unit (k2_off2 k) S1x1792.size (k2_off2_inb i k k2_h2)))⟩] := by
  unfold tripL_k2_t1 trip_k2_t1
  dsimp only
  sl_unfold_words
  rfl

/-- The index of a group's row in the block. -/
theorem idx_rows (k : Fin k2_t1_loop.trips) (y : S1024x1792.Idx) (x : S64x1792.Idx) (h0 : (y 0).val = 64 * k.val + (x 0).val)
    (h1 : (y 1).val = (x 1).val) : (Rect.unit (s := S1024x1792) (k2_off1 k) S64x1792.size (k2_off1_inb i k k2_h2)).idx x = y := by
  funext a; apply Fin.ext
  have e := off2_1 k
  match a with
  | ⟨0, _⟩ => show k2_off1 k (0 : Fin 2) + 1 * (x 0).val = (y 0).val; rw [e, h0]; show 64 * k.val + 1 * (x 0).val = _; omega
  | ⟨1, _⟩ => show k2_off1 k (1 : Fin 2) + 1 * (x 1).val = (y 1).val; rw [e, h1]; show 0 + 1 * (x 1).val = _; omega

/-- One trip's payload at a row of its group. -/
theorem rows_val (k : Fin k2_t1_loop.trips) (V : S1024x1792.Idx → Elt Ideal .f32) (N : S1024x1792.Idx → Elt Ideal .i8)
    (S : S16x1792.Idx → Elt Ideal .f32) (A : S1024x1792.Idx → Elt Ideal .f32)
    (y : S1024x1792.Idx) (x : S64x1792.Idx) (h0 : (y 0).val = 64 * k.val + (x 0).val) (h1 : (y 1).val = (x 1).val) :
    k2_pay3
        (k2_pay7 (View.ld V (Rect.unit (k2_off1 k) S64x1792.size (k2_off1_inb i k k2_h2)))
          (View.ld N (Rect.unit (k2_off1 k) S64x1792.size (k2_off1_inb i k k2_h2))))
        (k2_pay8 (View.ld V (Rect.unit (k2_off1 k) S64x1792.size (k2_off1_inb i k k2_h2))))
        (k2_pay9 (View.ld V (Rect.unit (k2_off1 k) S64x1792.size (k2_off1_inb i k k2_h2))))
        (k2_pay10 (View.ld A (Rect.unit (k2_off1 k) S64x1792.size (k2_off1_inb i k k2_h2))))
        (View.ld S (Rect.unit (k2_off2 k) S1x1792.size (k2_off2_inb i k k2_h2))) x
      = gg (N y) (at2 (A := 16) (B := 1792) (α := EReal) S k.val (y 1).val) (V y) (A y) := by
  have hi := idx_rows (i := i) (k2_h2 := k2_h2) k y x h0 h1
  have hs : View.ld S (Rect.unit (k2_off2 k) S1x1792.size (k2_off2_inb i k k2_h2)) (ix2 (n0 := 1) (n1 := 1792) ⟨0, by omega⟩ (x 1))
      = at2 (A := 16) (B := 1792) (α := EReal) S k.val (y 1).val := by
    refine eq_at2 (A := 16) (B := 1792) (α := EReal) _ _ ?_ ?_
    · show k2_off2 k (0 : Fin 2) + 1 * 0 = _
      rw [off2_2]; show k.val + 1 * 0 = _; omega
    · show k2_off2 k (1 : Fin 2) + 1 * (x 1).val = _
      rw [off2_2, h1]; show 0 + 1 * (x 1).val = _; omega
  have hV : View.ld V (Rect.unit (k2_off1 k) S64x1792.size (k2_off1_inb i k k2_h2)) x = V y := congrArg V hi
  have hN : View.ld N (Rect.unit (k2_off1 k) S64x1792.size (k2_off1_inb i k k2_h2)) x = N y := congrArg N hi
  have hA : View.ld A (Rect.unit (k2_off1 k) S64x1792.size (k2_off1_inb i k k2_h2)) x = A y := congrArg A hi
  refine (k2_pay3_apply _ _ _ _ x).trans ?_
  rw [hs, hV, hN, hA]

/-- The gradient a block ends with at an element, from what the accumulator `A` held. -/
def blkG (v : S1024x1792.Idx → EReal) (n : S1024x1792.Idx → BitVec 8) (s : S16x1792.Idx → EReal) (A : S1024x1792.Idx → EReal) (y : S1024x1792.Idx) : EReal :=
  gg (n y) (at2 (A := 16) (B := 1792) (α := EReal) s ((y 0).val / 64) (y 1).val) (v y) (A y)

/-- Before trip `k` the groups below `k` hold their gradient and the others what the loop found. -/
theorem loop2 (G : BufTy.Contents (Elt Ideal) arg8.view.ty) : ∀ (k : ℕ), k ≤ k2_t1_loop.trips → ∀ y : S1024x1792.Idx,
    arg8.view.read (Elt Ideal) (arg8.view.writes (Elt Ideal) G (pb_k2_t1 (F := Ideal) 𝒱 c bd i arg3 harg3 arg4 harg4 arg5 harg5 arg6 harg6 arg7 harg7 arg8 harg8 k2_h2 X_arg5 X_arg6 X_arg7 G k)) y
      = if (y 0).val / 64 < k then blkG (arg5.view.read (Elt Ideal) X_arg5) (arg6.view.read (Elt Ideal) X_arg6) (arg7.view.read (Elt Ideal) X_arg7) (arg8.view.read (Elt Ideal) G) y
        else arg8.view.read (Elt Ideal) G y := by
  intro k
  induction k with
  | zero => intro _ y; rw [if_neg (by omega)]; rfl
  | succ k ih =>
    intro hk y
    have hk' : k < k2_t1_loop.trips := hk
    have h16 : k < 16 := by rw [← trips2]; exact hk'
    have hy0 : (y 0).val < 1024 := (y 0).isLt
    have hy1 : (y 1).val < 1792 := (y 1).isLt
    have hs := pb_k2_t1_succ (F := Ideal) 𝒱 c bd i arg3 harg3 arg4 harg4 arg5 harg5 arg6 harg6 arg7 harg7 arg8 harg8 k2_h2 X_arg5 X_arg6 X_arg7 G ⟨k, hk'⟩
    rw [hs, trip2, List.singleton_append]
    have ih := ih (Nat.le_of_lt hk')
    by_cases hg : 64 * k ≤ (y 0).val ∧ (y 0).val < 64 * k + 64
    · let x : S64x1792.Idx := ix2 (n0 := 64) (n1 := 1792) ⟨(y 0).val - 64 * k, by omega⟩ ⟨(y 1).val, hy1⟩
      have hx : (y 0).val = 64 * k + (x 0).val := by show (y 0).val = 64 * k + ((y 0).val - 64 * k); omega
      refine (View.read_writes_cons_rows_of_mem (o := 64 * k) arg8.view G _ _ _ y x (off2_1 ⟨k, hk'⟩) hx rfl).trans ?_
      refine (rows_val (i := i) (k2_h2 := k2_h2) ⟨k, hk'⟩ _ _ _ _ y x hx rfl).trans ?_
      rw [ih, if_neg (by omega), if_pos (by omega)]
      unfold blkG
      rw [show (y 0).val / 64 = k by omega]
    · refine (View.read_writes_cons_rows_of_not_mem (o := 64 * k) (W := 64) arg8.view G _ _ _ y (off2_1 ⟨k, hk'⟩) rfl (by omega)).trans ?_
      rw [ih]
      by_cases hlt : (y 0).val / 64 < k
      · rw [if_pos hlt, if_pos (by omega)]
      · rw [if_neg hlt, if_neg (by omega)]

end Loop

end Cert.KernelIdeal.Value
-- ==== Proof.Value.Bwd.lean ====
/- What the gradient call leaves at its last row block, and in its result array, over the extended reals. -/
module

public import proofs.«01_k».proof.Proof.Value.Cases2
public import proofs.«01_k».proof.Proof.Value.Loop2
public import Idealize.ShloMosaic.Lib.Pipeline.CanonAppend

@[expose] public section

noncomputable section

namespace Cert.KernelIdeal.Value

open Idealize.ShloMosaic Idealize.ShloMosaic.TcCoe Idealize.ShloMosaic.ValueIdx Cert.Value Idealize.SL.Sem
open Cert.KernelIdeal Cert.KernelIdeal.Gen Cert.KernelIdeal.Run
open Idealize.ShloMosaic.Pipeline (Dat)
open scoped BigOperators

/-- The last row block completes the accumulator and turns it, group by group, into the gradient. -/
theorem out2_C_5_eq (c : Dev nD) (i : grid2.Coords) (a0 : Memref sig .tc .vmem S1024x1024 .bf16) (h0 : a0.IsWhole) (a1 : Memref sig .tc .vmem S1024x1792 .bf16) (h1 : a1.IsWhole) (a2 : Memref sig .tc .vmem S1024x1792 .f32) (h2 : a2.IsWhole) (a3 : Memref sig .tc .vmem S1024x1792 .i8) (h3 : a3.IsWhole) (a4 : Memref sig .tc .vmem S16x1792 .f32) (h4 : a4.IsWhole) (a5 : Memref sig .tc .vmem S1024x1792 .f32) (h5 : a5.IsWhole) (c0 : ¬cond2_0 i) (c1 : cond2_1 i)
    (x0 : Vec Ideal S1024x1024 .bf16) (x1 : Vec Ideal S1024x1792 .bf16) (x2 : Vec Ideal S1024x1792 .f32) (x3 : Vec Ideal S1024x1792 .i8) (x4 : Vec Ideal S16x1792 .f32) (xo : Vec Ideal S1024x1792 .f32) :
    out2_C_5 c i a0 h0 a1 h1 a2 h2 a3 h3 a4 h4 a5 h5 c0 c1 x0 x1 x2 x3 x4 xo = blkG x2 x3 x4 (k2_pay2 xo x0 x1) := by
  have hA : a5.view.read (Elt Ideal) (a5.view.writes (Elt Ideal) a5.view.junk (kernelRun2_C.sl.H5_1 c a0 h0 a1 h1 a5 h5 x0 x1 xo)) = k2_pay2 xo x0 x1 := by
    rw [View.read_writes_junk_eq_canon]
    sl_unfold_words
    rw [View.canon_unit_zero hz2]
    simp only [View.readAt_eq_ld, h0.read_unread, h1.read_unread, h5.read_unread,
      View.ld_unit_zero (S := S1024x1024) hz2, View.ld_unit_zero (S := S1024x1792) hz2]
  unfold out2_C_5
  unfold kernelRun2_C
  dsimp only
  rw [View.read_writes_junk_eq_canon, ← View.read_writes_junk_eq_canon a5.view, View.writes_append]
  funext y
  have hy0 : (y 0).val < 1024 := (y 0).isLt
  refine (loop2 _ _ _ _ _ _ _ _ _ _ _ _ _ _ _ _ _ _ _ _ _ k2_t1_loop.trips le_rfl y).trans ?_
  rw [if_pos (by rw [trips2]; omega), hA, h2.read_unread, h3.read_unread, h4.read_unread]

variable (V : (c : Dev nD) → (b : Ref sig .tc) → Buf (Elt Ideal) ((c : Thread nD τ).loc b))

/-- The activations, the error as the call finds it, and the per-element arrays. -/
def x2A (c : Dev nD) (a b : ℕ) : EReal := at2 (A := 16384) (B := 18432) (α := EReal) (V c main_v0) a b
def e2A (c : Dev nD) (a b : ℕ) : EReal := at2 (A := 16384) (B := 7168) (α := EReal) (V c main_v2_0) a b
def v2A (c : Dev nD) (a b : ℕ) : EReal := at2 (A := 18432) (B := 7168) (α := EReal) (V c main_arg4) a b
def n2A (c : Dev nD) (a b : ℕ) : BitVec 8 := at2 (A := 18432) (B := 7168) (α := BitVec 8) (V c main_arg2) a b
def s2A (c : Dev nD) (a b : ℕ) : EReal := at2 (A := 288) (B := 7168) (α := EReal) (V c main_arg3) a b

/-- The block every window is at, at each grid point. -/
theorem idx2 : ∀ t : Fin cfg2.N,
    (win2_0.index t (0 : Fin 2) = t.val % 16 ∧ win2_0.index t (1 : Fin 2) = t.val / 16 % 18)
    ∧ (win2_1.index t (0 : Fin 2) = t.val % 16 ∧ win2_1.index t (1 : Fin 2) = t.val / 288)
    ∧ (win2_2.index t (0 : Fin 2) = t.val / 16 % 18 ∧ win2_2.index t (1 : Fin 2) = t.val / 288)
    ∧ (win2_3.index t (0 : Fin 2) = t.val / 16 % 18 ∧ win2_3.index t (1 : Fin 2) = t.val / 288)
    ∧ (win2_4.index t (0 : Fin 2) = t.val / 16 % 18 ∧ win2_4.index t (1 : Fin 2) = t.val / 288)
    ∧ (win2_5.index t (0 : Fin 2) = t.val / 16 % 18 ∧ win2_5.index t (1 : Fin 2) = t.val / 288) :=
  (by decide +kernel : ∀ t : Fin grid2.N, _)

theorem iblk2_0 (c : Dev nD) (t : Fin cfg2.N) (y : S1024x1024.Idx) :
    (iblk2 V c 0 t : Vec Ideal S1024x1024 .bf16) y = x2A V c (1024 * (t.val % 16) + (y 0).val) (1024 * (t.val / 16 % 18) + (y 1).val) := by
  obtain ⟨h, -⟩ := idx2 t
  refine (?_ : _ = V c main_v0 (((cfg2.win 0).blk t).view.emb y)).trans (eq_at2 (A := 16384) (B := 18432) (α := EReal) _ _ ?_ ?_)
  · rfl
  · show win2_0.index t (0 : Fin 2) * 1024 + 1 * (y 0).val = _; rw [h.1]; omega
  · show win2_0.index t (1 : Fin 2) * 1024 + 1 * (y 1).val = _; rw [h.2]; omega

theorem iblk2_1 (c : Dev nD) (t : Fin cfg2.N) (y : S1024x1792.Idx) :
    (iblk2 V c 1 t : Vec Ideal S1024x1792 .bf16) y = e2A V c (1024 * (t.val % 16) + (y 0).val) (1792 * (t.val / 288) + (y 1).val) := by
  obtain ⟨-, h, -⟩ := idx2 t
  refine (?_ : _ = V c main_v2_0 (((cfg2.win 1).blk t).view.emb y)).trans (eq_at2 (A := 16384) (B := 7168) (α := EReal) _ _ ?_ ?_)
  · rfl
  · show win2_1.index t (0 : Fin 2) * 1024 + 1 * (y 0).val = _; rw [h.1]; omega
  · show win2_1.index t (1 : Fin 2) * 1792 + 1 * (y 1).val = _; rw [h.2]; omega

theorem iblk2_2 (c : Dev nD) (t : Fin cfg2.N) (y : S1024x1792.Idx) :
    (iblk2 V c 2 t : Vec Ideal S1024x1792 .f32) y = v2A V c (1024 * (t.val / 16 % 18) + (y 0).val) (1792 * (t.val / 288) + (y 1).val) := by
  obtain ⟨-, -, h, -⟩ := idx2 t
  refine (?_ : _ = V c main_arg4 (((cfg2.win 2).blk t).view.emb y)).trans (eq_at2 (A := 18432) (B := 7168) (α := EReal) _ _ ?_ ?_)
  · rfl
  · show win2_2.index t (0 : Fin 2) * 1024 + 1 * (y 0).val = _; rw [h.1]; omega
  · show win2_2.index t (1 : Fin 2) * 1792 + 1 * (y 1).val = _; rw [h.2]; omega

theorem iblk2_3 (c : Dev nD) (t : Fin cfg2.N) (y : S1024x1792.Idx) :
    (iblk2 V c 3 t : Vec Ideal S1024x1792 .i8) y = n2A V c (1024 * (t.val / 16 % 18) + (y 0).val) (1792 * (t.val / 288) + (y 1).val) := by
  obtain ⟨-, -, -, h, -⟩ := idx2 t
  refine (?_ : _ = V c main_arg2 (((cfg2.win 3).blk t).view.emb y)).trans (eq_at2 (A := 18432) (B := 7168) (α := BitVec 8) _ _ ?_ ?_)
  · rfl
  · show win2_3.index t (0 : Fin 2) * 1024 + 1 * (y 0).val = _; rw [h.1]; omega
  · show win2_3.index t (1 : Fin 2) * 1792 + 1 * (y 1).val = _; rw [h.2]; omega

theorem iblk2_4 (c : Dev nD) (t : Fin cfg2.N) (y : S16x1792.Idx) :
    (iblk2 V c 4 t : Vec Ideal S16x1792 .f32) y = s2A V c (16 * (t.val / 16 % 18) + (y 0).val) (1792 * (t.val / 288) + (y 1).val) := by
  obtain ⟨-, -, -, -, h, -⟩ := idx2 t
  refine (?_ : _ = V c main_arg3 (((cfg2.win 4).blk t).view.emb y)).trans (eq_at2 (A := 288) (B := 7168) (α := EReal) _ _ ?_ ?_)
  · rfl
  · show win2_4.index t (0 : Fin 2) * 16 + 1 * (y 0).val = _; rw [h.1]; omega
  · show win2_4.index t (1 : Fin 2) * 1792 + 1 * (y 1).val = _; rw [h.2]; omega

/-! ## The accumulator -/

/-- Row block `s`'s product at input channel `a`, output channel `n`. -/
def pG (c : Dev nD) (a n s : ℕ) : EReal :=
  ∑ r ∈ Finset.range 1024, x2A V c (1024 * s + r) a * e2A V c (1024 * s + r) n

theorem prod2 (c : Dev nD) (t : Fin cfg2.N) (acc : Vec Ideal S1024x1792 .f32) (y : S1024x1792.Idx) :
    k2_pay2 acc (iblk2 V c 0 t : Vec Ideal S1024x1024 .bf16) (iblk2 V c 1 t : Vec Ideal S1024x1792 .bf16) y
      = acc y + pG V c (1024 * (t.val / 16 % 18) + (y 0).val) (1792 * (t.val / 288) + (y 1).val) (t.val % 16) := by
  have h0 : (y 0).val < 1024 := (y 0).isLt
  have h1 : (y 1).val < 1792 := (y 1).isLt
  rw [k2_pay2_apply]
  unfold pG
  refine congrArg _ (Finset.sum_congr rfl fun r hr => ?_)
  have hr := Finset.mem_range.1 hr
  rw [at2_of_lt _ hr h0, at2_of_lt _ hr h1, iblk2_0, iblk2_1]

theorem acc2_A (c : Dev nD) (t : Fin cfg2.N) (h0 : t.val % 16 = 0) (y : S1024x1792.Idx) :
    outsAt2 V c t.val t.isLt y = pG V c (1024 * (t.val / 16 % 18) + (y 0).val) (1792 * (t.val / 288) + (y 1).val) 0 := by
  rw [outsAt2_A V c t h0 (by omega)]
  rw [out2_A_5_eq]
  refine (prod2 V c t _ y).trans ?_
  rw [k2_pay1_apply, zero_add, h0]

theorem acc2_B (c : Dev nD) (t : Fin cfg2.N) (h0 : ¬t.val % 16 = 0) (h1 : ¬t.val % 16 = 15) :
    outsAt2 V c t.val t.isLt = k2_pay2 (outsAt2 V c (t.val - 1) (Nat.lt_of_le_of_lt (Nat.sub_le _ _) t.isLt))
      (iblk2 V c 0 t : Vec Ideal S1024x1024 .bf16) (iblk2 V c 1 t : Vec Ideal S1024x1792 .bf16) := by
  rw [outsAt2_B V c t h0 h1]
  rw [out2_B_5_eq]

/-- The accumulator before the last row block: the row blocks so far. -/
theorem acc2 (c : Dev nD) : ∀ (n : ℕ) (h : n < cfg2.N) (y : S1024x1792.Idx), ¬n % 16 = 15 →
    outsAt2 V c n h y = ∑ s ∈ Finset.range (n % 16 + 1), pG V c (1024 * (n / 16 % 18) + (y 0).val) (1792 * (n / 288) + (y 1).val) s := by
  intro n
  induction n with
  | zero => intro h y _; exact (acc2_A V c ⟨0, h⟩ rfl y).trans (Finset.sum_range_one fun s => pG V c (1024 * (0 / 16 % 18) + (y 0).val) (1792 * (0 / 288) + (y 1).val) s).symm
  | succ n ih =>
    intro h y h1
    by_cases h0 : (n + 1) % 16 = 0
    · refine (acc2_A V c ⟨n + 1, h⟩ h0 y).trans ?_
      rw [h0]
      exact (Finset.sum_range_one fun s => pG V c (1024 * ((n + 1) / 16 % 18) + (y 0).val) (1792 * ((n + 1) / 288) + (y 1).val) s).symm
    · refine (congrFun (acc2_B V c ⟨n + 1, h⟩ h0 h1) y).trans ?_
      refine (prod2 V c ⟨n + 1, h⟩ _ y).trans ?_
      show outsAt2 V c n _ y + pG V c (1024 * ((n + 1) / 16 % 18) + (y 0).val) (1792 * ((n + 1) / 288) + (y 1).val) ((n + 1) % 16) = _
      rw [ih _ _ (by omega), show (n + 1) % 16 = n % 16 + 1 by omega, show (n + 1) / 16 = n / 16 by omega, show (n + 1) / 288 = n / 288 by omega]
      exact (Finset.sum_range_succ _ _).symm

/-! ## The gradient -/

/-- The product of the transposed activations and the error. -/
def gA (c : Dev nD) (a n : ℕ) : EReal := ∑ s ∈ Finset.range 16, pG V c a n s

/-- The gradient of the rounding variable at input channel `a`, output channel `n`. -/
def dvA (c : Dev nD) (a n : ℕ) : EReal := gg (n2A V c a n) (s2A V c (a / 64) n) (v2A V c a n) (gA V c a n)

theorem outs2_5 (c : Dev nD) (t : Fin cfg2.N) (h1 : t.val % 16 = 15) (y : S1024x1792.Idx) :
    outsAt2 V c t.val t.isLt y = dvA V c (1024 * (t.val / 16 % 18) + (y 0).val) (1792 * (t.val / 288) + (y 1).val) := by
  have h0 : ¬t.val % 16 = 0 := by omega
  have hy0 : (y 0).val < 1024 := (y 0).isLt
  have hy1 : (y 1).val < 1792 := (y 1).isLt
  rw [outsAt2_C V c t h0 h1, out2_C_5_eq]
  unfold blkG dvA
  refine congr (congr (congr (congrArg gg (iblk2_3 V c t y)) ?_) (iblk2_2 V c t y)) ?_
  · rw [at2_of_lt _ (by omega) hy1, iblk2_4]
    refine congrArg₂ (s2A V c) ?_ rfl
    show 16 * (t.val / 16 % 18) + (y 0).val / 64 = _
    omega
  · refine (prod2 V c t _ y).trans ?_
    have ht : (t.val - 1) % 16 = 14 := by omega
    rw [acc2 V c _ _ y (by omega), ht, h1, show (t.val - 1) / 16 = t.val / 16 by omega, show (t.val - 1) / 288 = t.val / 288 by omega]
    exact (Finset.sum_range_succ _ _).symm

theorem mem_blk2_5 (t : Fin cfg2.N) (i : S18432x7168.Idx) :
    i ∈ ((cfg2.win 5).blk t).view.set ↔ ∀ a : Fin 2, win2_5.index t a * S1024x1792.size a ≤ (i a).val ∧ (i a).val < win2_5.index t a * S1024x1792.size a + S1024x1792.size a := by
  show i ∈ ((View.whole main_v3).slice (win2_5.rect t)).set ↔ _
  rw [View.set_slice_whole, Rect.mem_set_unit]
  exact Iff.rfl

/-- The result of the gradient call. -/
theorem final2_5 (c : Dev nD) : (dat2 V c).arrAt 5 cfg2.N = mk2 18432 7168 (dvA V c) := by
  refine (dat2 V c).arrAt_eq_of_cover 5 _ (fun t hf => ?_) (fun i => ?_)
  · show (cfg2.win 5).cut (grid2.coords t) ((dat2 V c).after 5 t) = _
    rw [after2_5]
    have hm : t.val % 16 = 15 := (flush2_5 t).mp hf
    obtain ⟨-, -, -, -, -, h⟩ := idx2 t
    funext y
    refine (outs2_5 V c t hm y).trans ?_
    show _ = dvA V c (win2_5.index t (0 : Fin 2) * 1024 + 1 * (y 0).val) (win2_5.index t (1 : Fin 2) * 1792 + 1 * (y 1).val)
    rw [h.1, h.2]
    congr 1 <;> omega
  · have hi0 : (i 0).val < 18432 := (i 0).isLt
    have hi1 : (i 1).val < 7168 := (i 1).isLt
    have hN : cfg2.N = 1152 := N_2
    let t : Fin cfg2.N := ⟨288 * ((i 1).val / 1792) + 16 * ((i 0).val / 1024) + 15, by omega⟩
    obtain ⟨-, -, -, -, -, h⟩ := idx2 t
    have e0 : t.val / 16 % 18 = (i 0).val / 1024 := by show (288 * ((i 1).val / 1792) + 16 * ((i 0).val / 1024) + 15) / 16 % 18 = _; omega
    have e1 : t.val / 288 = (i 1).val / 1792 := by show (288 * ((i 1).val / 1792) + 16 * ((i 0).val / 1024) + 15) / 288 = _; omega
    refine ⟨t, (flush2_5 t).mpr (by show (288 * ((i 1).val / 1792) + 16 * ((i 0).val / 1024) + 15) % 16 = 15; omega), (mem_blk2_5 t i).2 fun a => ?_⟩
    match a with
    | ⟨0, _⟩ => show win2_5.index t (0 : Fin 2) * 1024 ≤ (i 0).val ∧ (i 0).val < win2_5.index t (0 : Fin 2) * 1024 + 1024; rw [h.1, e0]; omega
    | ⟨1, _⟩ => show win2_5.index t (1 : Fin 2) * 1792 ≤ (i 1).val ∧ (i 1).val < win2_5.index t (1 : Fin 2) * 1792 + 1792; rw [h.2, e1]; omega

end Cert.KernelIdeal.Value
-- ==== Proof.Value.Spec.lean ====
/- The four results as functions of the five arguments' elements. -/
module

public import proofs.«01_k».proof.Proof.Value.Scalar

@[expose] public section

noncomputable section

namespace Cert.Value

open Idealize.ShloMosaic
open scoped BigOperators

/-- The arguments read at coordinates: activations, weights, integer weights, scales, rounding variables. -/
structure Ins where
  x : ℕ → ℕ → EReal
  w : ℕ → ℕ → EReal
  n : ℕ → ℕ → BitVec 8
  s : ℕ → ℕ → EReal
  v : ℕ → ℕ → EReal

namespace Ins

variable (I : Ins)

/-- The quantisation residual at input channel `k`, output channel `c`. -/
def d (k c : ℕ) : EReal := dd (I.w k c) (I.n k c) (I.s (k / 64) c) (I.v k c)
/-- The error at row `m`, output channel `c`. -/
def e (m c : ℕ) : EReal := ∑ k ∈ Finset.range 18432, I.x m k * I.d k c
/-- The reconstruction loss of output channel `c`. -/
def recon (c : ℕ) : EReal := Ideal.ofBits .f32 0x38800000#32 * ∑ m ∈ Finset.range 16384, I.e m c * I.e m c
/-- The regulariser of output channel `c`. -/
def reg (c : ℕ) : EReal := Ideal.ofBits .f32 0x38638E39#32 * ∑ k ∈ Finset.range 18432, rg (I.v k c)
/-- The product of the transposed activations and the error. -/
def g (k c : ℕ) : EReal := ∑ m ∈ Finset.range 16384, I.x m k * I.e m c
/-- The gradient of the rounding variable at input channel `k`, output channel `c`. -/
def dv (k c : ℕ) : EReal := gg (I.n k c) (I.s (k / 64) c) (I.v k c) (I.g k c)

end Ins

end Cert.Value
-- ==== Proof.Value.Algebra.lean ====
/- Identities of the extended reals the two programs' formulas need. -/
module

public import proofs.«01_k».proof.Proof.Value.Scalar

@[expose] public section

noncomputable section

namespace Cert.Value

open Idealize.ShloMosaic
open scoped BigOperators

/-! ## Sums -/

/-- A factor moves into a sum of terms that are not negative. -/
theorem mul_sum_nonneg {ι : Type} (c : EReal) (s : Finset ι) (f : ι → EReal) (hf : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a (Finset.mem_insert_self a s))
      (Finset.sum_nonneg fun i hi => hf i (Finset.mem_insert_of_mem hi)), ih fun i hi => hf i (Finset.mem_insert_of_mem hi)]

/-- Blocks of terms that are not negative, each scaled, are the whole sum scaled. -/
theorem sum_blocks_scaled (c : EReal) (n m : ℕ) (f : ℕ → EReal) (hf : ∀ k, 0 ≤ f k) :
    ∑ s ∈ Finset.range n, c * ∑ r ∈ Finset.range m, f (m * s + r) = c * ∑ k ∈ Finset.range (m * n), f k := by
  rw [← mul_sum_nonneg c (Finset.range n) (fun s => ∑ r ∈ Finset.range m, f (m * s + r)) fun s _ => Finset.sum_nonneg fun r _ => hf _, sum_blocks]

theorem mul_self_nonneg' (x : EReal) : 0 ≤ x * x := by
  induction x with
  | bot => simp
  | coe r => rw [← EReal.coe_mul]; exact EReal.coe_nonneg.mpr (mul_self_nonneg r)
  | top => simp

/-! ## Constants -/

theorem ofBits_two : Ideal.ofBits .f32 0x40000000#32 = ((2 : ℝ) : EReal) := by
  simp [Ideal.ofBits, Ideal.ieee, -EReal.coe_mul]; try norm_num
theorem ofBits_eight : Ideal.ofBits .f32 0x41000000#32 = ((8 : ℝ) : EReal) := by
  simp [Ideal.ofBits, Ideal.ieee, -EReal.coe_mul]; try norm_num
theorem ofBits_seven : Ideal.ofBits .f32 0x40E00000#32 = ((7 : ℝ) : EReal) := by
  simp [Ideal.ofBits, Ideal.ieee, -EReal.coe_mul]; try norm_num
theorem ofBits_rows : Ideal.ofBits .f32 0x46800000#32 = ((16384 : ℝ) : EReal) := by
  simp [Ideal.ofBits, Ideal.ieee, -EReal.coe_mul]; try norm_num
theorem ofBits_inv_rows : Ideal.ofBits .f32 0x38800000#32 = ((1 / 16384 : ℝ) : EReal) := by
  simp [Ideal.ofBits, Ideal.ieee, -EReal.coe_mul]; try norm_num

/-- Dividing by the number of rows is scaling by its stored reciprocal. -/
theorem div_rows (x : EReal) : Ideal.div x (Ideal.ofBits .f32 0x46800000#32) = Ideal.ofBits .f32 0x38800000#32 * x := by
  have h : ((16384 : ℝ) : EReal) ≠ 0 := by
    intro h; exact absurd (EReal.coe_eq_zero.mp h) (by norm_num)
  rw [ofBits_rows, ofBits_inv_rows]
  unfold Ideal.div
  rw [if_neg h, mul_comm, ← EReal.coe_inv]
  congr 2; norm_num

/-! ## The rounding variable is between zero and one -/

theorem hh_real (v : EReal) : ∃ r : ℝ, hh v = r := by
  have h0 : (0 : EReal) ≤ hh v := by
    unfold hh; rw [Ideal.ofBits_zero_f32, Ideal.ofBits_one_f32]; exact le_min zero_le_one (le_max_left _ _)
  have h1 : hh v ≤ (1 : EReal) := by
    unfold hh; rw [Ideal.ofBits_one_f32]; exact min_le_left _ _
  refine ⟨(hh v).toReal, (EReal.coe_toReal ?_ ?_).symm⟩
  · intro h; rw [h, top_le_iff] at h1; exact EReal.coe_ne_top 1 h1
  · intro h; rw [h] at h0; exact absurd h0 (by simp)

theorem uu_real (v : EReal) : ∃ r : ℝ, uu v = r := by
  obtain ⟨r, hr⟩ := hh_real v
  refine ⟨2 * r - 1, ?_⟩
  unfold uu
  rw [hr, ofBits_two, Ideal.ofBits_one_f32, EReal.coe_sub, EReal.coe_mul, EReal.coe_one]

theorem uu_bound (v : EReal) (r : ℝ) (h : uu v = r) : -1 ≤ r ∧ r ≤ 1 := by
  obtain ⟨q, hq⟩ := hh_real v
  have h0 : (0 : EReal) ≤ hh v := by
    unfold hh; rw [Ideal.ofBits_zero_f32, Ideal.ofBits_one_f32]; exact le_min zero_le_one (le_max_left _ _)
  have h1 : hh v ≤ (1 : EReal) := by
    unfold hh; rw [Ideal.ofBits_one_f32]; exact min_le_left _ _
  rw [hq] at h0 h1
  have q0 : 0 ≤ q := EReal.coe_nonneg.mp h0
  have q1 : q ≤ 1 := by rw [← EReal.coe_one] at h1; exact EReal.coe_le_coe_iff.mp h1
  have e : uu v = ((2 * q - 1 : ℝ) : EReal) := by
    unfold uu
    rw [hq, ofBits_two, Ideal.ofBits_one_f32, EReal.coe_sub, EReal.coe_mul, EReal.coe_one]
  rw [e] at h
  have := EReal.coe_eq_coe_iff.mp h
  constructor <;> linarith

/-- The magnitude of a real. -/
theorem abs_coe (r : ℝ) : max (r : EReal) (-(r : EReal)) = ((|r| : ℝ) : EReal) := by
  rw [← EReal.coe_neg, abs_eq_max_neg]
  exact (EReal.coe_strictMono.monotone.map_max (a := r) (b := -r)).symm

/-- A power of a real magnitude with a natural exponent. -/
theorem pow_coe (r : ℝ) (k : ℕ) : Ideal.pow (r : EReal) ((k : ℝ) : EReal) = ((r ^ k : ℝ) : EReal) := by
  show ((Real.rpow r (k : ℝ) : ℝ) : EReal) = _
  exact congrArg _ (Real.rpow_natCast r k)

theorem sign_abs_pow (r : ℝ) : (SignType.sign r : ℝ) * |r| ^ 7 = r ^ 7 := by
  rcases lt_trichotomy r 0 with h | h | h
  · rw [sign_neg h, abs_of_neg h]; simp only [SignType.coe_neg_one]; ring
  · subst h; simp
  · rw [sign_pos h, abs_of_pos h]; simp

/-- The regulariser's share by a power of the magnitude is the one by squarings. -/
theorem rg_pow (v : EReal) : Ideal.ofBits .f32 0x3F800000#32 - Ideal.pow (max (uu v) (-uu v)) (Ideal.ofBits .f32 0x41000000#32) = rg v := by
  obtain ⟨r, hr⟩ := uu_real v
  unfold rg
  rw [hr, abs_coe, ofBits_eight, show ((8 : ℝ) : EReal) = (((8 : ℕ) : ℝ) : EReal) by norm_num, pow_coe]
  simp only [← EReal.coe_mul]
  congr 2
  rw [Even.pow_abs (by decide)]
  ring

theorem rg_nonneg (v : EReal) : 0 ≤ rg v := by
  obtain ⟨r, hr⟩ := uu_real v
  obtain ⟨h0, h1⟩ := uu_bound v r hr
  unfold rg
  rw [hr, Ideal.ofBits_one_f32, ← EReal.coe_one]
  simp only [← EReal.coe_mul, ← EReal.coe_sub]
  refine EReal.coe_nonneg.mpr ?_
  have h2 : r * r ≤ 1 := by nlinarith
  have h2' : 0 ≤ r * r := mul_self_nonneg r
  have h4 : (r * r) * (r * r) ≤ 1 := by nlinarith
  have h4' : 0 ≤ (r * r) * (r * r) := mul_self_nonneg _
  nlinarith

/-- The regulariser's derivative by sign and magnitude is the one by squarings. -/
theorem du_pow (v : EReal) :
    (Ideal.ofBits .f32 0xBA638E39#32 * Ideal.sign (uu v)) * Ideal.pow (max (uu v) (-uu v)) (Ideal.ofBits .f32 0x40E00000#32) = du v := by
  obtain ⟨r, hr⟩ := uu_real v
  unfold du
  rw [hr, abs_coe, ofBits_seven, show ((7 : ℝ) : EReal) = (((7 : ℕ) : ℝ) : EReal) by norm_num, pow_coe, mul_assoc]
  show _ * (((SignType.sign r : ℝ) : EReal) * _) = _
  simp only [← EReal.coe_mul]
  congr 2
  rw [sign_abs_pow]
  ring

end Cert.Value
-- ==== Proof.Value.KernelSpec.lean ====
/- The kernel's four results, from the three calls' arrays, as the functions of the arguments' elements. -/
module

public import proofs.«01_k».proof.Proof.Run.Frame
public import proofs.«01_k».proof.Proof.Value.Prep
public import proofs.«01_k».proof.Proof.Value.Fwd
public import proofs.«01_k».proof.Proof.Value.Bwd
public import proofs.«01_k».proof.Proof.Value.Spec
public import proofs.«01_k».proof.Proof.Value.Algebra
public import Idealize.ShloMosaic.Lib.StableHlo.RunRead

@[expose] public section

set_option maxRecDepth 16384

noncomputable section

namespace Cert.KernelIdeal.Value

open Idealize.ShloMosaic Idealize.ShloMosaic.TcCoe Idealize.ShloMosaic.ValueIdx Cert.Value Idealize.SL.Sem
open Cert.KernelIdeal Cert.KernelIdeal.Gen Cert.KernelIdeal.Run
open scoped BigOperators

variable (m : (ℓ : Loc nD τ sig) → Buf (Elt Ideal) ℓ) (ρ : Dev nD → PrngReg) (c : Dev nD)

/-- The arguments as the first call finds them, the activations flattened to rows. -/
def kins : Ins where
  x := at2 (V1 m ρ c main_v0 : FVec Ideal S16384x18432 .bf16)
  w := at2 (V1 m ρ c main_arg1 : FVec Ideal S18432x7168 .f32)
  n := at2 (V1 m ρ c main_arg2 : IVec S18432x7168 8)
  s := at2 (V1 m ρ c main_arg3 : FVec Ideal S288x7168 .f32)
  v := at2 (V1 m ρ c main_arg4 : FVec Ideal S18432x7168 .f32)

/-- Two matrices with equal elements. -/
theorem mk2_congr {α : Type} {A B : ℕ} {f g : ℕ → ℕ → α} (h : ∀ a < A, ∀ b < B, f a b = g a b) : mk2 A B f = mk2 A B g :=
  funext fun i => h _ (i 0).isLt _ (i 1).isLt

/-! ## The first call -/

theorem dA_eq (a b : ℕ) : dA (V1 m ρ) c a b = (kins m ρ c).d a b := rfl

theorem rA_eq (b : ℕ) : rA (V1 m ρ) c b = (kins m ρ c).reg b :=
  sum_blocks_scaled _ 36 512 (fun k => rg ((kins m ρ c).v k b)) (fun _ => rg_nonneg _)

/-! ## The second call -/

theorem dF_eq {a b : ℕ} (ha : a < 18432) (hb : b < 7168) : dF (V2 m ρ) c a b = (kins m ρ c).d a b := by
  unfold dF
  rw [show (V2 m ρ c main_v1_0 : FVec Ideal S18432x7168 .bf16) = mk2 18432 7168 (dA (V1 m ρ) c) from
    (W2_arr m ρ c 4).trans (final0_4 (V1 m ρ) c)]
  exact at2_mk2 _ ha hb

theorem xA_eq : xA (V2 m ρ) c = (kins m ρ c).x := by
  unfold xA
  rw [show V2 m ρ c main_v0 = V1 m ρ c main_v0 from W2_of m ρ c main_v0 (by decide)]
  rfl

theorem eA_eq {b : ℕ} (a : ℕ) (hb : b < 7168) : eA (V2 m ρ) c a b = (kins m ρ c).e a b := by
  unfold eA Ins.e
  rw [← sum_blocks 18 1024]
  refine Finset.sum_congr rfl fun s hs => Finset.sum_congr rfl fun r hr => ?_
  have h1 := Finset.mem_range.mp hs
  have h2 := Finset.mem_range.mp hr
  rw [xA_eq, dF_eq m ρ c (by omega) hb]

theorem rcA_eq {b : ℕ} (hb : b < 7168) : rcA (V2 m ρ) c b = (kins m ρ c).recon b := by
  refine (Finset.sum_congr rfl fun i _ => ?_).trans
    (sum_blocks_scaled (Ideal.ofBits .f32 0x38800000#32) 8 2048 (fun k => (kins m ρ c).e k b * (kins m ρ c).e k b) (fun _ => mul_self_nonneg' _))
  unfold qF
  exact congrArg _ (Finset.sum_congr rfl fun r _ => by rw [eA_eq m ρ c _ hb])

/-! ## The third call -/

theorem e2A_eq {a b : ℕ} (ha : a < 16384) (hb : b < 7168) : e2A (V3 m ρ) c a b = (kins m ρ c).e a b := by
  unfold e2A
  rw [show (V3 m ρ c main_v2_0 : FVec Ideal S16384x7168 .bf16) = mk2 16384 7168 (eA (V2 m ρ) c) from
    (W3_arr m ρ c 2).trans (final1_2 (V2 m ρ) c)]
  exact (at2_mk2 _ ha hb).trans (eA_eq m ρ c a hb)

theorem kept (b : Ref sig .tc) (h0 : ∀ w : Fin cfg0.W, Pipeline.arrRef spec0 w = b → (cfg0.win w).isOut = false)
    (h1 : ∀ w : Fin cfg1.W, Pipeline.arrRef spec1 w = b → (cfg1.win w).isOut = false) : V3 m ρ c b = V1 m ρ c b :=
  (W3_of m ρ c b h1).trans (W2_of m ρ c b h0)

theorem x2A_eq : x2A (V3 m ρ) c = (kins m ρ c).x := by
  unfold x2A
  rw [kept m ρ c main_v0 (by decide) (by decide)]
  rfl

theorem v2A_eq : v2A (V3 m ρ) c = (kins m ρ c).v := by
  unfold v2A
  rw [kept m ρ c main_arg4 (by decide) (by decide)]
  rfl

theorem n2A_eq : n2A (V3 m ρ) c = (kins m ρ c).n := by
  unfold n2A
  rw [kept m ρ c main_arg2 (by decide) (by decide)]
  rfl

theorem s2A_eq : s2A (V3 m ρ) c = (kins m ρ c).s := by
  unfold s2A
  rw [kept m ρ c main_arg3 (by decide) (by decide)]
  rfl

theorem gA_eq {b : ℕ} (a : ℕ) (hb : b < 7168) : gA (V3 m ρ) c a b = (kins m ρ c).g a b := by
  unfold gA Ins.g
  rw [← sum_blocks 16 1024]
  refine Finset.sum_congr rfl fun s hs => Finset.sum_congr rfl fun r hr => ?_
  have h1 := Finset.mem_range.mp hs
  have h2 := Finset.mem_range.mp hr
  rw [x2A_eq, e2A_eq m ρ c (by omega) hb]

theorem dvA_eq {b : ℕ} (a : ℕ) (hb : b < 7168) : dvA (V3 m ρ) c a b = (kins m ρ c).dv a b := by
  unfold dvA Ins.dv
  rw [v2A_eq, n2A_eq, s2A_eq, gA_eq m ρ c a hb]

/-! ## The results -/

theorem row_apply (f : ℕ → EReal) (j : S7168.Idx) :
    shapeCast S7168 (mk2 1 7168 (fun _ n => f n) : FVec Ideal S1x7168 .f32) shapeCasts_S1x7168_S7168 j = f (j 0).val := by
  refine shapeCast_apply _ _ _ (ix2 (⟨0, by omega⟩ : Fin 1) (⟨(j 0).val, (j 0).isLt⟩ : Fin 7168)) ?_
  rw [Shape.rowMajor_val_two, Shape.rowMajor_val_one]
  show 0 * 7168 + (j 0).val = (j 0).val
  omega

theorem res_v3 : @Eq (FVec Ideal S18432x7168 .f32) (W5 m ρ c main_v3) (mk2 18432 7168 (kins m ρ c).dv) :=
  (W5_of m ρ c main_v3 (by decide)).trans ((W4_arr m ρ c 5).trans ((final2_5 (V3 m ρ) c).trans (mk2_congr fun a _ b hb => dvA_eq m ρ c a hb)))

theorem res_v4 : @Eq (FVec Ideal S7168 .f32) (W5 m ρ c main_v4) (fun j => (kins m ρ c).recon (j 0).val) := by
  have h : @Eq (FVec Ideal S7168 .f32) (W5 m ρ c main_v4)
      (shapeCast S7168 (W4 m ρ c main_v2_1 : FVec Ideal S1x7168 .f32) shapeCasts_S1x7168_S7168) := by
    unfold W5; after_reads_simp; try rfl
  have h2 : @Eq (FVec Ideal S1x7168 .f32) (W4 m ρ c main_v2_1) (mk2 1 7168 fun _ n => rcA (V2 m ρ) c n) :=
    (W4_of m ρ c main_v2_1 (by decide)).trans ((W3_arr m ρ c 3).trans (final1_3 (V2 m ρ) c))
  rw [h, h2]
  funext j
  exact (row_apply _ j).trans (rcA_eq m ρ c (j 0).isLt)

theorem res_v5 : @Eq (FVec Ideal S7168 .f32) (W5 m ρ c main_v5) (fun j => (kins m ρ c).reg (j 0).val) := by
  have h : @Eq (FVec Ideal S7168 .f32) (W5 m ρ c main_v5)
      (shapeCast S7168 (W4 m ρ c main_v1_1 : FVec Ideal S1x7168 .f32) shapeCasts_S1x7168_S7168) := by
    unfold W5; after_reads_simp; try rfl
  have h2 : @Eq (FVec Ideal S1x7168 .f32) (W4 m ρ c main_v1_1) (mk2 1 7168 fun _ n => rA (V1 m ρ) c n) :=
    (W4_of m ρ c main_v1_1 (by decide)).trans ((W3_of m ρ c main_v1_1 (by decide)).trans ((W2_arr m ρ c 5).trans (final0_5 (V1 m ρ) c)))
  rw [h, h2]
  funext j
  exact (row_apply _ j).trans (rA_eq m ρ c _)

theorem res_v6 : @Eq (FVec Ideal S4x4096x7168 .bf16) (W5 m ρ c main_v6)
    (shapeCast S4x4096x7168 (mk2 16384 7168 (kins m ρ c).e : FVec Ideal S16384x7168 .bf16) shapeCasts_S16384x7168_S4x4096x7168) := by
  have h : @Eq (FVec Ideal S4x4096x7168 .bf16) (W5 m ρ c main_v6)
      (shapeCast S4x4096x7168 (W4 m ρ c main_v2_0 : FVec Ideal S16384x7168 .bf16) shapeCasts_S16384x7168_S4x4096x7168) := by
    unfold W5; after_reads_simp; try rfl
  have h2 : @Eq (FVec Ideal S16384x7168 .bf16) (W4 m ρ c main_v2_0) (mk2 16384 7168 (kins m ρ c).e) :=
    (W4_of m ρ c main_v2_0 (by decide)).trans ((W3_arr m ρ c 2).trans ((final1_2 (V2 m ρ) c).trans (mk2_congr fun a _ b hb => eA_eq m ρ c a hb)))
  rw [h, h2]

/-- The kernel's results. -/
theorem run : θ_run defs (onTc (τ := τ) (main (F := Ideal))) ⟨m, fun _ => 0, ρ⟩ (fun r => ∀ c : Dev nD,
      @Eq (FVec Ideal S7168 .f32) (r.2.mem ((c.tc : Thread nD τ).loc main_v4)) (fun j => (kins m ρ c).recon (j 0).val)
      ∧ @Eq (FVec Ideal S7168 .f32) (r.2.mem ((c.tc : Thread nD τ).loc main_v5)) (fun j => (kins m ρ c).reg (j 0).val)
      ∧ @Eq (FVec Ideal S4x4096x7168 .bf16) (r.2.mem ((c.tc : Thread nD τ).loc main_v6))
          (shapeCast S4x4096x7168 (mk2 16384 7168 (kins m ρ c).e : FVec Ideal S16384x7168 .bf16) shapeCasts_S16384x7168_S4x4096x7168)
      ∧ @Eq (FVec Ideal S18432x7168 .f32) (r.2.mem ((c.tc : Thread nD τ).loc main_v3)) (mk2 18432 7168 (kins m ρ c).dv)) :=
  (θ_run defs _ _).mono (fun _ h c =>
    ⟨(h.1 c _ (mem_uc main_v4 (by decide))).trans (res_v4 m ρ c),
     (h.1 c _ (mem_uc main_v5 (by decide))).trans (res_v5 m ρ c),
     (h.1 c _ (mem_uc main_v6 (by decide))).trans (res_v6 m ρ c),
     (h.1 c _ (mem_uc main_v3 (by decide))).trans (res_v3 m ρ c)⟩) (run_all m ρ)

/-- The arguments' elements, from the launch contents. -/
theorem kins_eq : kins m ρ c = {
    x := at2 (shapeCast S16384x18432 (m ((c.tc : Thread nD τ).loc main_arg0) : FVec Ideal S4x4096x18432 .bf16) shapeCasts_S4x4096x18432_S16384x18432)
    w := at2 (m ((c.tc : Thread nD τ).loc main_arg1) : FVec Ideal S18432x7168 .f32)
    n := at2 (m ((c.tc : Thread nD τ).loc main_arg2) : IVec S18432x7168 8)
    s := at2 (m ((c.tc : Thread nD τ).loc main_arg3) : FVec Ideal S288x7168 .f32)
    v := at2 (m ((c.tc : Thread nD τ).loc main_arg4) : FVec Ideal S18432x7168 .f32) } := by
  have h0 : @Eq (FVec Ideal S16384x18432 .bf16) (V1 m ρ c main_v0)
      (shapeCast S16384x18432 (m ((c.tc : Thread nD τ).loc main_arg0) : FVec Ideal S4x4096x18432 .bf16) shapeCasts_S4x4096x18432_S16384x18432) := by
    unfold V1 W1; after_reads_simp; try rfl
  unfold kins
  rw [h0, show V1 m ρ c main_arg1 = m ((c.tc : Thread nD τ).loc main_arg1) from W1_of m ρ c main_arg1 (by decide),
    show V1 m ρ c main_arg2 = m ((c.tc : Thread nD τ).loc main_arg2) from W1_of m ρ c main_arg2 (by decide),
    show V1 m ρ c main_arg3 = m ((c.tc : Thread nD τ).loc main_arg3) from W1_of m ρ c main_arg3 (by decide),
    show V1 m ρ c main_arg4 = m ((c.tc : Thread nD τ).loc main_arg4) from W1_of m ρ c main_arg4 (by decide)]

end Cert.KernelIdeal.Value
-- ==== Proof.Value.RefLine.lean ====
/- The reference's host operations, read group by group over the contents its one call leaves. -/
module

public import proofs.«01_k».proof.Proof.Value.Scalar
public import proofs.«01_k».proof.Proof.Gen.ReferenceIdeal.Frame
public import Idealize.ShloMosaic.Lib.StableHlo.RunRead

@[expose] public section

noncomputable section

namespace Cert.ReferenceIdeal.Value

open Idealize.ShloMosaic Idealize.ShloMosaic.TcCoe Idealize.ShloMosaic.ValueIdx Cert.Value Idealize.SL.Sem
open Cert.ReferenceIdeal Cert.ReferenceIdeal.Gen
open scoped BigOperators

/-- A scalar constant's whole array. -/
abbrev cst (b : BitVec 32) : FVec Ideal S18432x7168 .f32 := broadcastInDim S18432x7168 ![] bcast_S_S18432x7168 (constant S_ .f32 b)

/-- The weight-shaped arrays of reals. -/
abbrev M := FVec Ideal S18432x7168 .f32

/-- The operations before the call. -/
def pre (X : Valuation τ sig (Elt Ideal)) : Valuation τ sig (Elt Ideal) := StableHlo.after (List.flatten [hostOps0, hostOps0_1]) X

/-- The operations after it. -/
def tail (Y : Valuation τ sig (Elt Ideal)) : Valuation τ sig (Elt Ideal) :=
  StableHlo.after (List.flatten [hostOps1, hostOps1_1, hostOps1_2, hostOps1_3, hostOps1_4, hostOps1_5, hostOps1_6]) Y

variable (X Y : Valuation τ sig (Elt Ideal))

theorem pre_v0 : @Eq (FVec Ideal S16384x18432 .bf16) (pre X main_v0) (shapeCast S16384x18432 (X main_arg0 : FVec Ideal S4x4096x18432 .bf16) shapeCasts_S4x4096x18432_S16384x18432) := by
  unfold pre; after_reads_simp; try rfl

theorem pre_v1 : @Eq (FVec Ideal S288x1x7168 .f32) (pre X main_v1) (broadcastInDim S288x1x7168 ![0, 2] bcast_S288x7168_S288x1x7168_0_2 (X main_arg3 : FVec Ideal S288x7168 .f32)) := by
  unfold pre; after_reads_simp; try rfl

theorem pre_v7 : @Eq (M) (pre X main_v7) (Host.divf (cst 0x3F800000#32) (addf (cst 0x3F800000#32) (Host.exp (Host.negf (X main_arg4 : M))))) := by
  unfold pre; after_reads_simp; try rfl

theorem pre_v11 : @Eq (M) (pre X main_v11) (addf (mulf (pre X main_v7 : M) (cst 0x3F99999A#32)) (cst 0xBDCCCCCD#32)) := by
  unfold pre; after_reads_simp; try rfl

theorem pre_v12 : @Eq (M) (pre X main_v12) (minimumf (cst 0x3F800000#32) (maximumf (cst 0x00000000#32) (pre X main_v11 : M))) := by
  unfold pre; after_reads_simp; try rfl

theorem pre_arg0 : pre X main_arg0 = X main_arg0 := by
  unfold pre; after_reads_simp

theorem pre_arg1 : pre X main_arg1 = X main_arg1 := by
  unfold pre; after_reads_simp

theorem pre_arg2 : pre X main_arg2 = X main_arg2 := by
  unfold pre; after_reads_simp

theorem pre_arg3 : pre X main_arg3 = X main_arg3 := by
  unfold pre; after_reads_simp

theorem pre_arg4 : pre X main_arg4 = X main_arg4 := by
  unfold pre; after_reads_simp

theorem tail_v0 : tail Y main_v0 = Y main_v0 := by
  unfold tail; after_reads_simp

theorem tail_v1 : tail Y main_v1 = Y main_v1 := by
  unfold tail; after_reads_simp

theorem tail_v7 : tail Y main_v7 = Y main_v7 := by
  unfold tail; after_reads_simp

theorem tail_v11 : tail Y main_v11 = Y main_v11 := by
  unfold tail; after_reads_simp

theorem tail_v12 : tail Y main_v12 = Y main_v12 := by
  unfold tail; after_reads_simp

theorem tail_v13 : tail Y main_v13 = Y main_v13 := by
  unfold tail; after_reads_simp

theorem tail_arg1 : tail Y main_arg1 = Y main_arg1 := by
  unfold tail; after_reads_simp

theorem tail_v14 : @Eq (M) (tail Y main_v14) (addf (tail Y main_v13 : M) (tail Y main_v12 : M)) := by
  unfold tail; after_reads_simp; try rfl

theorem tail_v15 : @Eq (M) (tail Y main_v15) (minimumf (cst 0x40E00000#32) (maximumf (cst 0xC1000000#32) (tail Y main_v14 : M))) := by
  unfold tail; after_reads_simp; try rfl

theorem tail_v19 : @Eq (M) (tail Y main_v19) (shapeCast S18432x7168 (mulf (broadcastInDim S288x64x7168 ![0, 1, 2] bcast_S288x1x7168_S288x64x7168_0_1_2 (tail Y main_v1 : FVec Ideal S288x1x7168 .f32)) (shapeCast S288x64x7168 (tail Y main_v15 : M) shapeCasts_S18432x7168_S288x64x7168)) shapeCasts_S288x64x7168_S18432x7168) := by
  unfold tail; after_reads_simp; try rfl

theorem tail_v21 : @Eq (FVec Ideal S18432x7168 .bf16) (tail Y main_v21) (truncf .bf16 (subf (tail Y main_arg1 : M) (tail Y main_v19 : M)) bitsLt_bf16_f32) := by
  unfold tail; after_reads_simp; try rfl

theorem tail_v22 : @Eq (FVec Ideal S16384x7168 .f32) (tail Y main_v22) (Host.dotGeneral (F := Ideal) (φ₁ := .bf16) (φ₂ := .bf16) dot_S16384x18432_S18432x7168_S16384x7168_1_0_0_1_n_n none (tail Y main_v0 : FVec Ideal S16384x18432 .bf16) (tail Y main_v21 : FVec Ideal S18432x7168 .bf16)) := by
  unfold tail; after_reads_simp; try rfl

theorem tail_v26 : @Eq (FVec Ideal S7168 .f32) (tail Y main_v26) (Host.divf (Host.reduceAdd (mulf (tail Y main_v22 : FVec Ideal S16384x7168 .f32) (tail Y main_v22 : FVec Ideal S16384x7168 .f32)) (constant S_ .f32 0x00000000#32 : FVec Ideal S_ .f32) reducesTo_S16384x7168_S7168_d0 h_S_) (broadcastInDim S7168 ![] bcast_S_S7168 (constant S_ .f32 0x46800000#32))) := by
  unfold tail; after_reads_simp; try rfl

theorem tail_v30 : @Eq (M) (tail Y main_v30) (subf (mulf (cst 0x40000000#32) (tail Y main_v12 : M)) (cst 0x3F800000#32)) := by
  unfold tail; after_reads_simp; try rfl

theorem tail_v31 : @Eq (M) (tail Y main_v31) (Host.absf (tail Y main_v30 : M)) := by
  unfold tail; after_reads_simp; try rfl

theorem tail_v35 : @Eq (M) (tail Y main_v35) (subf (cst 0x3F800000#32) (Host.powf (tail Y main_v31 : M) (cst 0x41000000#32))) := by
  unfold tail; after_reads_simp; try rfl

theorem tail_v38 : @Eq (FVec Ideal S7168 .f32) (tail Y main_v38) (mulf (broadcastInDim S7168 ![] bcast_S_S7168 (constant S_ .f32 0x38638E39#32)) (Host.reduceAdd (tail Y main_v35 : M) (constant S_ .f32 0x00000000#32 : FVec Ideal S_ .f32) reducesTo_S18432x7168_S7168_d0 h_S_)) := by
  unfold tail; after_reads_simp; try rfl

theorem tail_v39 : @Eq (FVec Ideal S16384x7168 .bf16) (tail Y main_v39) (truncf .bf16 (tail Y main_v22 : FVec Ideal S16384x7168 .f32) bitsLt_bf16_f32) := by
  unfold tail; after_reads_simp; try rfl

theorem tail_v40 : @Eq (M) (tail Y main_v40) (Host.dotGeneral (F := Ideal) (φ₁ := .bf16) (φ₂ := .bf16) dot_S16384x18432_S16384x7168_S18432x7168_0_0_1_1_n_n none (tail Y main_v0 : FVec Ideal S16384x18432 .bf16) (tail Y main_v39 : FVec Ideal S16384x7168 .bf16)) := by
  unfold tail; after_reads_simp; try rfl

theorem tail_v53 : @Eq (M) (tail Y main_v53) (select (andi (cmpf .ogt (tail Y main_v11 : M) (cst 0x00000000#32)) (cmpf .olt (tail Y main_v11 : M) (cst 0x3F800000#32))) (mulf (mulf (cst 0x3F99999A#32) (tail Y main_v7 : M)) (subf (cst 0x3F800000#32) (tail Y main_v7 : M))) (cst 0x00000000#32)) := by
  unfold tail; after_reads_simp; try rfl

theorem tail_v59 : @Eq (M) (tail Y main_v59) (mulf (mulf (cst 0xBA638E39#32) (Host.sign (tail Y main_v30 : M))) (Host.powf (tail Y main_v31 : M) (cst 0x40E00000#32))) := by
  unfold tail; after_reads_simp; try rfl

theorem tail_v63 : @Eq (M) (tail Y main_v63) (shapeCast S18432x7168 (mulf (shapeCast S288x64x7168 (tail Y main_v40 : M) shapeCasts_S18432x7168_S288x64x7168) (broadcastInDim S288x64x7168 ![0, 1, 2] bcast_S288x1x7168_S288x64x7168_0_1_2 (tail Y main_v1 : FVec Ideal S288x1x7168 .f32))) shapeCasts_S288x64x7168_S18432x7168) := by
  unfold tail; after_reads_simp; try rfl

theorem tail_v66 : @Eq (M) (tail Y main_v66) (select (cmpf .ole (tail Y main_v14 : M) (cst 0x40E00000#32)) (cst 0x3F800000#32) (cst 0x00000000#32)) := by
  unfold tail; after_reads_simp; try rfl

theorem tail_v70 : @Eq (M) (tail Y main_v70) (mulf (addf (mulf (mulf (cst 0xB9000000#32) (tail Y main_v63 : M)) (tail Y main_v66 : M)) (tail Y main_v59 : M)) (tail Y main_v53 : M)) := by
  unfold tail; after_reads_simp; try rfl

theorem tail_v71 : @Eq (FVec Ideal S4x4096x7168 .bf16) (tail Y main_v71) (shapeCast S4x4096x7168 (tail Y main_v39 : FVec Ideal S16384x7168 .bf16) shapeCasts_S16384x7168_S4x4096x7168) := by
  unfold tail; after_reads_simp; try rfl

end Cert.ReferenceIdeal.Value
-- ==== Proof.Value.RefElem.lean ====
/- The reference's results read at an element, as the functions of the arguments' elements. -/
module

public import proofs.«01_k».proof.Proof.Value.RefLine
public import proofs.«01_k».proof.Proof.Value.Spec
public import proofs.«01_k».proof.Proof.Value.Algebra
public import proofs.«01_k».proof.Proof.Value.Dot
public import Idealize.ShloMosaic.Lib.StackMember
public import Idealize.ShloMosaic.Lib.IdealHost

@[expose] public section

noncomputable section

namespace Cert.ReferenceIdeal.Value

open Idealize.ShloMosaic Idealize.ShloMosaic.TcCoe Idealize.ShloMosaic.ValueIdx Idealize.ShloMosaic.StackMember Cert.Value Idealize.SL.Sem
open Cert.ReferenceIdeal Cert.ReferenceIdeal.Gen
open scoped BigOperators

variable (X Y : Valuation τ sig (Elt Ideal))

/-- The arguments of the reference at their coordinates, the activations as the matrix the reference reshapes them to. -/
def ins : Ins where
  x := at2 (A := 16384) (B := 18432) (α := EReal) (pre X main_v0)
  w := at2 (A := 18432) (B := 7168) (α := EReal) (X main_arg1)
  n := at2 (A := 18432) (B := 7168) (α := BitVec 8) (X main_arg2)
  s := at2 (A := 288) (B := 7168) (α := EReal) (X main_arg3)
  v := at2 (A := 18432) (B := 7168) (α := EReal) (X main_arg4)

theorem cst_apply (b : BitVec 32) (i : S18432x7168.Idx) : cst b i = Ideal.ofBits .f32 b := by
  unfold cst
  rw [broadcastInDim_scalar_apply]
  rfl

/-! ## Elementwise operations at an element -/

section Pointwise
variable {s : Shape} (a b : FVec Ideal s .f32) (i : s.Idx)
theorem addf_at : addf a b i = a i + b i := rfl
theorem subf_at : subf a b i = a i - b i := rfl
theorem mulf_at : mulf a b i = a i * b i := rfl
theorem maximumf_at : maximumf a b i = max (a i) (b i) := rfl
theorem minimumf_at : minimumf a b i = min (a i) (b i) := rfl
theorem absf_at : Host.absf a i = max (a i) (-(a i)) := rfl
theorem negf_at : Host.negf a i = -(a i) := rfl
theorem exp_at : Host.exp a i = Ideal.exp (a i) := rfl
theorem sign_at : Host.sign a i = Ideal.sign (a i) := rfl
theorem powf_at : Host.powf a b i = Ideal.pow (a i) (b i) := rfl
theorem truncf_at (h : FTy.bits .bf16 < FTy.bits .f32) : (truncf .bf16 a h : FVec Ideal s .bf16) i = a i := rfl
theorem cmpf_at (p : CmpFPredicate) : cmpf p a b i = Ideal.cmp p (a i) (b i) := rfl
theorem andi_at (x y : IVec s 1) : andi x y i = x i &&& y i := rfl
theorem select_at (x : IVec s 1) : select x a b i = Scalar.select (x i) (a i) (b i) := rfl
end Pointwise

/-! ## Before the call -/

theorem pre_v7_apply (i : S18432x7168.Idx) : (pre X main_v7 : M) i = Ideal.logistic ((X main_arg4 : M) i) := by
  rw [pre_v7, hostDivf_apply, addf_at, exp_at, negf_at, cst_apply, Ideal.ofBits_one_f32]
  rfl

theorem pre_v11_apply (i : S18432x7168.Idx) : (pre X main_v11 : M) i = tt ((X main_arg4 : M) i) := by
  rw [pre_v11, addf_at, mulf_at, pre_v7_apply, cst_apply, cst_apply]
  rfl

theorem pre_v12_apply (i : S18432x7168.Idx) : (pre X main_v12 : M) i = hh ((X main_arg4 : M) i) := by
  rw [pre_v12, minimumf_at, maximumf_at, pre_v11_apply, cst_apply, cst_apply]
  rfl

theorem pre_v1_apply (g : Fin 288) (z : Fin 1) (c : Fin 7168) :
    (pre X main_v1 : FVec Ideal S288x1x7168 .f32) (ix3 g z c) = (X main_arg3 : FVec Ideal S288x7168 .f32) (ix2 g c) := by
  rw [pre_v1]
  exact broadcastInDim_apply _ _ _ _ (ix2 g c) (fun a => by match a with | ⟨0, _⟩ => rfl | ⟨1, _⟩ => rfl)

/-! ## After the call -/

/-- What the operations after the call find: the arrays of before, and the integer weights converted. -/
structure Found : Prop where
  v0 : Y main_v0 = pre X main_v0
  v1 : Y main_v1 = pre X main_v1
  v7 : Y main_v7 = pre X main_v7
  v11 : Y main_v11 = pre X main_v11
  v12 : Y main_v12 = pre X main_v12
  arg1 : Y main_arg1 = X main_arg1
  v13 : @Eq M (Y main_v13) (sitofp .f32 (X main_arg2 : IVec S18432x7168 8))

variable {X Y} (h : Found X Y)
include h

theorem v14_apply (i : S18432x7168.Idx) : (tail Y main_v14 : M) i = qs ((X main_arg2 : IVec S18432x7168 8) i) ((X main_arg4 : M) i) := by
  rw [tail_v14, addf_at, tail_v13, tail_v12, h.v13, h.v12, pre_v12_apply]
  rfl

theorem v15_apply (i : S18432x7168.Idx) : (tail Y main_v15 : M) i = qq ((X main_arg2 : IVec S18432x7168 8) i) ((X main_arg4 : M) i) := by
  rw [tail_v15, minimumf_at, maximumf_at, v14_apply h, cst_apply, cst_apply]
  rfl

/-- A scale spread over its group. -/
theorem scale_apply (g : Fin 288) (r : Fin 64) (c : Fin 7168) :
    broadcastInDim S288x64x7168 ![0, 1, 2] bcast_S288x1x7168_S288x64x7168_0_1_2 (tail Y main_v1 : FVec Ideal S288x1x7168 .f32) (ix3 g r c)
      = (X main_arg3 : FVec Ideal S288x7168 .f32) (ix2 g c) := by
  rw [tail_v1, h.v1]
  refine (broadcastInDim_apply _ _ _ _ (ix3 g (⟨0, by omega⟩ : Fin 1) c) (fun a => by match a with | ⟨0, _⟩ => rfl | ⟨1, _⟩ => rfl | ⟨2, _⟩ => rfl)).trans ?_
  exact pre_v1_apply X g _ c

/-- The grouped view of an input channel. -/
theorem grouped_apply (f : S288x64x7168.Idx → EReal) (k : Fin 18432) (c : Fin 7168) :
    shapeCast S18432x7168 f shapeCasts_S288x64x7168_S18432x7168 (ix2 k c)
      = f (ix3 (⟨k.val / 64, by omega⟩ : Fin 288) (⟨k.val % 64, by omega⟩ : Fin 64) c) := by
  refine shapeCast_apply _ _ _ _ ?_
  rw [Shape.rowMajor_val_three, Shape.rowMajor_val_two]
  show (k.val / 64 * 64 + k.val % 64) * 7168 + c.val = k.val * 7168 + c.val
  rw [Nat.div_add_mod' k.val 64]

theorem ungrouped_apply (f : S18432x7168.Idx → EReal) (k : Fin 18432) (c : Fin 7168) :
    shapeCast S288x64x7168 f shapeCasts_S18432x7168_S288x64x7168
      (ix3 (⟨k.val / 64, by omega⟩ : Fin 288) (⟨k.val % 64, by omega⟩ : Fin 64) c) = f (ix2 k c) := by
  refine shapeCast_apply _ _ _ _ ?_
  rw [Shape.rowMajor_val_three, Shape.rowMajor_val_two]
  show k.val * 7168 + c.val = (k.val / 64 * 64 + k.val % 64) * 7168 + c.val
  rw [Nat.div_add_mod' k.val 64]

theorem scale_at (k : Fin 18432) (c : Fin 7168) (hg : k.val / 64 < 288) :
    (X main_arg3 : FVec Ideal S288x7168 .f32) (ix2 (⟨k.val / 64, hg⟩ : Fin 288) c) = (ins X).s (k.val / 64) c.val :=
  eq_at2 (A := 288) (B := 7168) (α := EReal) _ _ rfl rfl

theorem n_at (k : Fin 18432) (c : Fin 7168) : (X main_arg2 : IVec S18432x7168 8) (ix2 k c) = (ins X).n k.val c.val :=
  eq_at2 (A := 18432) (B := 7168) (α := BitVec 8) _ _ rfl rfl

theorem v_at (k : Fin 18432) (c : Fin 7168) : (X main_arg4 : M) (ix2 k c) = (ins X).v k.val c.val :=
  eq_at2 (A := 18432) (B := 7168) (α := EReal) _ _ rfl rfl

theorem w_at (k : Fin 18432) (c : Fin 7168) : (X main_arg1 : M) (ix2 k c) = (ins X).w k.val c.val :=
  eq_at2 (A := 18432) (B := 7168) (α := EReal) _ _ rfl rfl

theorem x_at (m : Fin 16384) (k : Fin 18432) : (tail Y main_v0 : FVec Ideal S16384x18432 .bf16) (ix2 m k) = (ins X).x m.val k.val := by
  rw [tail_v0, h.v0]
  exact eq_at2 (A := 16384) (B := 18432) (α := EReal) _ _ rfl rfl

theorem v21_apply (k : Fin 18432) (c : Fin 7168) : (tail Y main_v21 : FVec Ideal S18432x7168 .bf16) (ix2 k c) = (ins X).d k.val c.val := by
  rw [tail_v21, truncf_at, subf_at, tail_v19, grouped_apply h, mulf_at, scale_apply h, ungrouped_apply h, v15_apply h, scale_at h, tail_arg1, h.arg1,
    n_at h, v_at h, w_at h]
  rfl

theorem v22_apply (m : Fin 16384) (c : Fin 7168) : (tail Y main_v22 : FVec Ideal S16384x7168 .f32) (ix2 m c) = (ins X).e m.val c.val := by
  rw [tail_v22]
  refine (dotGeneral_plain_apply (m := 16384) (k := 18432) (n := 7168) (φ₁ := .bf16) (φ₂ := .bf16) none _ _ m c).trans ?_
  unfold Ins.e
  rw [Finset.sum_range]
  exact Finset.sum_congr rfl fun k _ => congr (congrArg HMul.hMul (x_at h m k)) (v21_apply h k c)

theorem v39_apply (m : Fin 16384) (c : Fin 7168) : (tail Y main_v39 : FVec Ideal S16384x7168 .bf16) (ix2 m c) = (ins X).e m.val c.val := by
  rw [tail_v39, truncf_at, v22_apply h]

theorem v39_eq : @Eq (FVec Ideal S16384x7168 .bf16) (tail Y main_v39) (mk2 16384 7168 (ins X).e) := by
  funext i
  rw [eq_ix2 i]
  exact v39_apply h (i 0) (i 1)

theorem lift_row {A : ℕ} (hr : (⟨2, ![A, 7168]⟩ : Shape).Reduces [(0 : Fin 2)] S7168) (j : S7168.Idx) (k : Fin A) :
    hr.lift j k = ix2 (n0 := A) (n1 := 7168) k (j 0) := by
  funext a
  refine Fin.ext ?_
  show hr.liftVal j k.val a = _
  unfold Shape.Reduces.liftVal
  match a with
  | ⟨0, _⟩ => rfl
  | ⟨1, _⟩ => rfl

/-- The host's sum over the rows of a matrix. -/
theorem colsum_apply {A : ℕ} (x : FVec Ideal (⟨2, ![A, 7168]⟩ : Shape) .f32) (h' : (⟨2, ![A, 7168]⟩ : Shape).ReducesTo [(0 : Fin 2)] S7168)
    (hr : (⟨2, ![A, 7168]⟩ : Shape).Reduces [(0 : Fin 2)] S7168) (j : S7168.Idx) (f : ℕ → EReal)
    (hf : ∀ k : Fin A, x (ix2 k (j 0)) = f k.val) :
    Host.reduceAdd x (constant S_ .f32 0x00000000#32 : FVec Ideal S_ .f32) h' h_S_ j = ∑ k ∈ Finset.range A, f k := by
  rw [hostReduceAdd_apply, Ideal.hostReduceAdd_single h' hr]
  rw [show (constant S_ .f32 0x00000000#32 : FVec Ideal S_ .f32) (Shape.Idx.first h_S_) = 0 from Ideal.ofBits_zero_f32, zero_add, Finset.sum_range]
  exact Finset.sum_congr rfl fun k _ => (congrArg x (lift_row h hr j k)).trans (hf k)

theorem v26_eq : @Eq (FVec Ideal S7168 .f32) (tail Y main_v26) (fun j => (ins X).recon (j 0).val) := by
  funext j
  rw [tail_v26, hostDivf_apply, broadcastInDim_scalar_apply]
  refine (div_rows _).trans ?_
  unfold Ins.recon
  refine congrArg _ ?_
  have hr : S16384x7168.Reduces [(0 : Fin 2)] S7168 := by decide
  refine colsum_apply h (A := 16384) _ _ hr j (fun m => (ins X).e m (j 0).val * (ins X).e m (j 0).val) (fun k => ?_)
  · rw [mulf_at]
    exact congr (congrArg HMul.hMul (v22_apply h k (j 0))) (v22_apply h k (j 0))

theorem v30_apply (i : S18432x7168.Idx) : (tail Y main_v30 : M) i = uu ((X main_arg4 : M) i) := by
  rw [tail_v30, subf_at, mulf_at, tail_v12, h.v12, pre_v12_apply, cst_apply, cst_apply]
  rfl

theorem v31_apply (i : S18432x7168.Idx) : (tail Y main_v31 : M) i = max (uu ((X main_arg4 : M) i)) (-uu ((X main_arg4 : M) i)) := by
  rw [tail_v31, absf_at, v30_apply h]

theorem v35_apply (i : S18432x7168.Idx) : (tail Y main_v35 : M) i = rg ((X main_arg4 : M) i) := by
  rw [tail_v35, subf_at, powf_at, v31_apply h, cst_apply, cst_apply]
  exact rg_pow _

theorem v38_eq : @Eq (FVec Ideal S7168 .f32) (tail Y main_v38) (fun j => (ins X).reg (j 0).val) := by
  funext j
  rw [tail_v38, mulf_at, broadcastInDim_scalar_apply]
  unfold Ins.reg
  have hr : S18432x7168.Reduces [(0 : Fin 2)] S7168 := by decide
  refine congrArg _ (colsum_apply h (A := 18432) _ _ hr j (fun k => rg ((ins X).v k (j 0).val)) (fun k => ?_))
  · exact (v35_apply h _).trans (congrArg rg (v_at h k (j 0)))

theorem v40_apply (k : Fin 18432) (c : Fin 7168) : (tail Y main_v40 : M) (ix2 k c) = (ins X).g k.val c.val := by
  rw [tail_v40]
  refine (dotGeneralT_apply (K := 16384) (M := 18432) (N := 7168) (φ₁ := .bf16) (φ₂ := .bf16) dot_S16384x18432_S16384x7168_S18432x7168_0_0_1_1_n_n_wf none _ _ _ k c).trans ?_
  unfold Ins.g
  rw [Finset.sum_range]
  exact Finset.sum_congr rfl fun m _ => congr (congrArg HMul.hMul (x_at h m k)) (v39_apply h m c)

theorem v53_apply (i : S18432x7168.Idx) : (tail Y main_v53 : M) i = dh ((X main_arg4 : M) i) := by
  rw [tail_v53, select_at, andi_at, cmpf_at, cmpf_at, mulf_at, mulf_at, subf_at, tail_v11, tail_v7, h.v11, h.v7, pre_v11_apply, pre_v7_apply, cst_apply, cst_apply, cst_apply]
  rfl

theorem v59_apply (i : S18432x7168.Idx) : (tail Y main_v59 : M) i = du ((X main_arg4 : M) i) := by
  rw [tail_v59, mulf_at, mulf_at, sign_at, powf_at, v30_apply h, v31_apply h, cst_apply, cst_apply]
  exact du_pow _

theorem v63_apply (k : Fin 18432) (c : Fin 7168) : (tail Y main_v63 : M) (ix2 k c) = (ins X).g k.val c.val * (ins X).s (k.val / 64) c.val := by
  rw [tail_v63, grouped_apply h, mulf_at, scale_apply h, ungrouped_apply h, v40_apply h, scale_at h]

theorem v66_apply (i : S18432x7168.Idx) : (tail Y main_v66 : M) i = mk ((X main_arg2 : IVec S18432x7168 8) i) ((X main_arg4 : M) i) := by
  rw [tail_v66, select_at, cmpf_at, v14_apply h, cst_apply, cst_apply, cst_apply]
  rfl

theorem v70_apply (k : Fin 18432) (c : Fin 7168) : (tail Y main_v70 : M) (ix2 k c) = (ins X).dv k.val c.val := by
  rw [tail_v70, mulf_at, addf_at, mulf_at, mulf_at, cst_apply, v63_apply h, v66_apply h, v59_apply h, v53_apply h, n_at h, v_at h]
  rfl

theorem v70_eq : @Eq M (tail Y main_v70) (mk2 18432 7168 (ins X).dv) := by
  funext i
  rw [eq_ix2 i]
  exact v70_apply h (i 0) (i 1)

theorem v71_eq : @Eq (FVec Ideal S4x4096x7168 .bf16) (tail Y main_v71)
    (shapeCast S4x4096x7168 (mk2 16384 7168 (ins X).e : FVec Ideal S16384x7168 .bf16) shapeCasts_S16384x7168_S4x4096x7168) := by
  rw [tail_v71, v39_eq h]

end Cert.ReferenceIdeal.Value
-- ==== Proof.Value.RefRun.lean ====
/- The reference's run: its four results as the functions of the arguments' elements. -/
module

public import proofs.«01_k».proof.Proof.Value.RefElem

@[expose] public section

set_option maxRecDepth 16384

noncomputable section

namespace Cert.ReferenceIdeal.Value

open Idealize.ShloMosaic Idealize.ShloMosaic.TcCoe Idealize.ShloMosaic.ValueIdx Cert.Value Idealize.SL.Sem
open Cert.ReferenceIdeal Cert.ReferenceIdeal.Gen
open scoped BigOperators

variable (m : (ℓ : Loc nD τ sig) → Buf (Elt Ideal) ℓ) (ρ : Dev nD → PrngReg) (c : Dev nD)

/-! ## The call: the integer weights converted -/

theorem hz : (![0, 0] : Fin 2 → Nat) = fun _ => 0 := by funext a; match a with | ⟨0, _⟩ => rfl | ⟨1, _⟩ => rfl

theorem out0_1_eq (x : Vec Ideal S18432x7168 .i8) : out0_1 x = (sitofp .f32 x : M) := by
  unfold out0_1
  rw [View.canon_unit_zero hz, View.ld_unit_zero (S := S18432x7168) hz]
  rfl

theorem idx0 : ∀ t : Fin cfg0.N, (win0_0.index t (0 : Fin 2) = 0 ∧ win0_0.index t (1 : Fin 2) = 0)
    ∧ (win0_1.index t (0 : Fin 2) = 0 ∧ win0_1.index t (1 : Fin 2) = 0) :=
  (by decide +kernel : ∀ t : Fin grid0.N, _)

theorem iblk_apply (t : Fin cfg0.N) (y : S18432x7168.Idx) :
    (iblk m c 0 t : Vec Ideal S18432x7168 .i8) y = (V m c main_arg2 : IVec S18432x7168 8) y := by
  obtain ⟨h, -⟩ := idx0 t
  refine (?_ : _ = V m c main_arg2 (((cfg0.win 0).blk t).view.emb y)).trans (congrArg (V m c main_arg2) (funext fun a => Fin.ext ?_))
  · rfl
  · match a with
    | ⟨0, _⟩ => show win0_0.index t (0 : Fin 2) * 18432 + 1 * (y 0).val = (y 0).val; rw [h.1]; omega
    | ⟨1, _⟩ => show win0_0.index t (1 : Fin 2) * 7168 + 1 * (y 1).val = (y 1).val; rw [h.2]; omega

theorem mem_blk0_1 (t : Fin cfg0.N) (i : S18432x7168.Idx) :
    i ∈ ((cfg0.win 1).blk t).view.set ↔ ∀ a : Fin 2, win0_1.index t a * S18432x7168.size a ≤ (i a).val ∧ (i a).val < win0_1.index t a * S18432x7168.size a + S18432x7168.size a := by
  show i ∈ ((View.whole main_v13).slice (win0_1.rect t)).set ↔ _
  rw [View.set_slice_whole, Rect.mem_set_unit]
  exact Iff.rfl

theorem final : (dats m 0 c).arrAt 1 cfg0.N = (sitofp .f32 (V m c main_arg2 : IVec S18432x7168 8) : M) := by
  refine (dats m 0 c).arrAt_eq_of_cover 1 _ (fun t hf => ?_) (fun i => ?_)
  · show (cfg0.win 1).cut (grid0.coords t) ((dats m 0 c).after 1 t) = _
    rw [after0_1, out0_1_eq]
    obtain ⟨-, h⟩ := idx0 t
    funext y
    refine congrArg (FloatOps.sitofp (F := Ideal) .f32) ((iblk_apply m c t y).trans ?_)
    refine congrArg (V m c main_arg2 : IVec S18432x7168 8) (funext fun a => Fin.ext ?_)
    match a with
    | ⟨0, _⟩ => show (y 0).val = win0_1.index t (0 : Fin 2) * 18432 + 1 * (y 0).val; rw [h.1]; omega
    | ⟨1, _⟩ => show (y 1).val = win0_1.index t (1 : Fin 2) * 7168 + 1 * (y 1).val; rw [h.2]; omega
  · have hi0 : (i 0).val < 18432 := (i 0).isLt
    have hi1 : (i 1).val < 7168 := (i 1).isLt
    obtain ⟨-, h⟩ := idx0 t0_0
    refine ⟨t0_0, flush0_1 _, (mem_blk0_1 t0_0 i).2 fun a => ?_⟩
    match a with
    | ⟨0, _⟩ => show win0_1.index t0_0 (0 : Fin 2) * 18432 ≤ (i 0).val ∧ (i 0).val < win0_1.index t0_0 (0 : Fin 2) * 18432 + 18432; rw [h.1]; omega
    | ⟨1, _⟩ => show win0_1.index t0_0 (1 : Fin 2) * 7168 ≤ (i 1).val ∧ (i 1).val < win0_1.index t0_0 (1 : Fin 2) * 7168 + 7168; rw [h.2]; omega

/-! ## What the operations after the call find -/

/-- The launch contents of a device. -/
def X0 : Valuation τ sig (Elt Ideal) := fun b => m (c, b)

/-- The contents at the call's exit. -/
def Y0 : Valuation τ sig (Elt Ideal) := Pipeline.withArrays (cfgs 0).spec c (V0 m c) fun w => (dats m 0 c).arrAt w (cfgs 0).N

theorem Y0_of_ne (b : Ref sig .tc) (hb : ∀ w, Pipeline.arrRef spec0 w ≠ b) : Y0 m c (Proc.devRef .tc b) = pre (X0 m c) (Proc.devRef .tc b) :=
  Pipeline.withArrays_of_ne spec0 c (V0 m c) _ b hb

theorem found : Found (X0 m c) (Y0 m c) where
  v0 := Y0_of_ne m c main_v0 (by decide)
  v1 := Y0_of_ne m c main_v1 (by decide)
  v7 := Y0_of_ne m c main_v7 (by decide)
  v11 := Y0_of_ne m c main_v11 (by decide)
  v12 := Y0_of_ne m c main_v12 (by decide)
  arg1 := (Y0_of_ne m c main_arg1 (by decide)).trans (V_main_arg1 m c)
  v13 := (Pipeline.withArrays_arr spec0 launch0.win.arr_inj c (V0 m c) (fun w => (dats m 0 c).arrAt w (cfgs 0).N) 1).trans
    ((final m c).trans (congrArg (fun x : IVec S18432x7168 8 => (sitofp .f32 x : M)) (V_main_arg2 m c)))

/-! ## The run -/

/-- An unstaged buffer at the end. -/
theorem read_end (r : PUnit × MemSt nD τ sig (Elt Ideal))
    (h : Pipeline.FramePost cfgs (dats m) 0 (Pipeline.afterTail₀ cfgs (dats m) 0 (V0 m) [hostOps1, hostOps1_1, hostOps1_2, hostOps1_3, hostOps1_4, hostOps1_5, hostOps1_6]) r)
    (b : Ref sig .tc) (hb : b ∈ Pipeline.restRefs sig spec0) : r.2.mem ((c.tc : Thread nD τ).loc b) = tail (Y0 m c) (Proc.devRef .tc b) :=
  (h c).2 b hb

/-- The reference's results. -/
theorem run : θ_run defs (onTc (τ := τ) (main (F := Ideal))) ⟨m, fun _ => 0, ρ⟩ (fun r => ∀ c : Dev nD,
      @Eq (FVec Ideal S7168 .f32) (r.2.mem ((c.tc : Thread nD τ).loc main_v26)) (fun j => (ins (X0 m c)).recon (j 0).val)
      ∧ @Eq (FVec Ideal S7168 .f32) (r.2.mem ((c.tc : Thread nD τ).loc main_v38)) (fun j => (ins (X0 m c)).reg (j 0).val)
      ∧ @Eq (FVec Ideal S4x4096x7168 .bf16) (r.2.mem ((c.tc : Thread nD τ).loc main_v71))
          (shapeCast S4x4096x7168 (mk2 16384 7168 (ins (X0 m c)).e : FVec Ideal S16384x7168 .bf16) shapeCasts_S16384x7168_S4x4096x7168)
      ∧ @Eq M (r.2.mem ((c.tc : Thread nD τ).loc main_v70)) (mk2 18432 7168 (ins (X0 m c)).dv)) :=
  (θ_run defs _ _).mono (fun r h c =>
    ⟨(read_end m c r h main_v26 (Pipeline.mem_restRefs_of main_v26 (by decide) (by decide))).trans (v26_eq (found m c)),
     (read_end m c r h main_v38 (Pipeline.mem_restRefs_of main_v38 (by decide) (by decide))).trans (v38_eq (found m c)),
     (read_end m c r h main_v71 (Pipeline.mem_restRefs_of main_v71 (by decide) (by decide))).trans (v71_eq (found m c)),
     (read_end m c r h main_v70 (Pipeline.mem_restRefs_of main_v70 (by decide) (by decide))).trans (v70_eq (found m c))⟩) (run_main m ρ)

end Cert.ReferenceIdeal.Value
-- ==== Proof.Value.Main.lean ====
/- The kernel's results are the reference's. -/
module

public import proofs.«01_k».proof.Defs
public import proofs.«01_k».proof.Proof.Value.KernelSpec
public import proofs.«01_k».proof.Proof.Value.RefRun

@[expose] public section

set_option maxRecDepth 16384

noncomputable section

namespace Cert.Value

open Idealize.ShloMosaic Idealize.ShloMosaic.TcCoe Idealize.SL.Sem

/-- The two programs read their arguments' elements alike. -/
theorem ins_eq (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)) :
    ReferenceIdeal.Value.ins (ReferenceIdeal.Value.X0 m' c) = KernelIdeal.Value.kins m g c := by
  obtain ⟨h0, h1, h2, h3, h4⟩ := h
  rw [KernelIdeal.Value.kins_eq, ← h0, ← h1, ← h2, ← h3, ← h4]
  unfold ReferenceIdeal.Value.ins
  rw [ReferenceIdeal.Value.pre_v0]
  rfl

/-- The value claim, of all four results. -/
theorem algebraic : Cert.algebraic_KernelIdeal_ReferenceIdeal
    (hKernelIdeal := Cert.KernelIdeal.Gen.facts) (hReferenceIdeal := Cert.ReferenceIdeal.Gen.facts) := by
  intro m g m' g' _ h
  refine ⟨fun c j => (KernelIdeal.Value.kins m g c).recon (j 0).val, fun c j => (KernelIdeal.Value.kins m g c).reg (j 0).val,
    fun c => shapeCast KernelIdeal.S4x4096x7168 (mk2 16384 7168 (KernelIdeal.Value.kins m g c).e : FVec Ideal KernelIdeal.S16384x7168 .bf16)
      KernelIdeal.Gen.shapeCasts_S16384x7168_S4x4096x7168,
    fun c => mk2 18432 7168 (KernelIdeal.Value.kins m g c).dv, ?_, ?_⟩
  · refine (θ_run KernelIdeal.defs _ _).mono (fun r hr c => ?_) (θ_run_and (KernelIdeal.Value.run m g) (KernelIdeal.Run.unchanged m g))
    obtain ⟨r0, r1, r2, r3⟩ := hr.1 c
    exact ⟨r0, r1, r2, r3, hr.2 c⟩
  · refine (θ_run ReferenceIdeal.defs _ _).mono (fun r hr c => ?_) (θ_run_and (ReferenceIdeal.Value.run m' g') (ReferenceIdeal.Gen.unchanged m' g'))
    have e := ins_eq m g m' c (h c)
    obtain ⟨r0, r1, r2, r3⟩ := hr.1 c
    rw [e] at r0 r1 r2 r3
    exact ⟨r0, r1, r2, r3, hr.2 c⟩

end Cert.Value
-- ==== Proof.lean ====
module

public import proofs.«01_k».proof.Defs
public import proofs.«01_k».proof.Proof.Run.Frame
public import proofs.«01_k».proof.Proof.Run.BitsFrame
public import proofs.«01_k».proof.Proof.Gen.ReferenceIdeal
public import proofs.«01_k».proof.Proof.Gen.ReferenceIdeal.Frame
public import proofs.«01_k».proof.Proof.Gen.Kernel
public import proofs.«01_k».proof.Proof.Gen.KernelIdeal
public import proofs.«01_k».proof.Proof.Value.Main

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_bits, fun m ρ _ => Cert.KernelIdeal.Run.frame m ρ, fun m ρ _ => Cert.ReferenceIdeal.Gen.frame m ρ, trivial,
  Cert.Value.algebraic⟩

end Cert.Proof

end
